-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S4x256x256 : Shape := ⟨3, ![4, 256, 256]⟩
abbrev S2x4 : Shape := ⟨2, ![2, 4]⟩
abbrev S_ : Shape := ⟨0, ![]⟩
abbrev S1x256x256 : Shape := ⟨3, ![1, 256, 256]⟩
abbrev S1x1 : Shape := ⟨2, ![1, 1]⟩
abbrev S1x64x256 : Shape := ⟨3, ![1, 64, 256]⟩
abbrev S64x256 : Shape := ⟨2, ![64, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .local _ .vmem, ⟨0, _⟩ => ⟨S256x256, .bf16⟩
  | .local _ .vmem, ⟨1, _⟩ => ⟨S256x256, .bf16⟩
  | .local _ .vmem, ⟨2, _⟩ => ⟨S4x256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_23 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_22 : BitVec 32 := 2#32
  let v22 : BitVec 32 := Scalar.muli v6 c2_i32_22
  let v23 : BitVec 32 := Scalar.addi c0_i32_23 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v24 : BitVec 32 := Scalar.muli v5 c1_i32_24
  let v25 : BitVec 32 := Scalar.addi v23 v24
  v25.toNat
def k0_dev4 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v34 : BitVec 32 := Scalar.muli v2 c2_i32_35
  let v35 : BitVec 32 := Scalar.addi c0_i32_36 v34
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_37 : BitVec 32 := 1#32
  let v36 : BitVec 32 := Scalar.muli v7 c1_i32_37
  let v37 : BitVec 32 := Scalar.addi v35 v36
  v37.toNat
def k0_dev5 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v46 : BitVec 32 := Scalar.muli v6 c2_i32_47
  let v47 : BitVec 32 := Scalar.addi c0_i32_48 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v48 : BitVec 32 := Scalar.muli v5 c1_i32_49
  let v49 : BitVec 32 := Scalar.addi v47 v48
  v49.toNat
def k0_dev6 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v58 : BitVec 32 := Scalar.muli v2 c2_i32_58
  let v59 : BitVec 32 := Scalar.addi c0_i32_59 v58
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_60 : BitVec 32 := 1#32
  let v60 : BitVec 32 := Scalar.muli v7 c1_i32_60
  let v61 : BitVec 32 := Scalar.addi v59 v60
  v61.toNat
def k0_dev7 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v88 : BitVec 32 := Scalar.muli v2 c2_i32_90
  let v89 : BitVec 32 := Scalar.addi c0_i32_91 v88
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_92 : BitVec 32 := 1#32
  let v90 : BitVec 32 := Scalar.muli v7 c1_i32_92
  let v91 : BitVec 32 := Scalar.addi v89 v90
  v91.toNat
def k0_dev8 (d0 : Dev nD) : Nat :=
  let c0_i32_125 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_124 : BitVec 32 := 2#32
  let v118 : BitVec 32 := Scalar.muli v6 c2_i32_124
  let v119 : BitVec 32 := Scalar.addi c0_i32_125 v118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v120 : BitVec 32 := Scalar.muli v5 c1_i32_126
  let v121 : BitVec 32 := Scalar.addi v119 v120
  v121.toNat
def k0_dev9 (d0 : Dev nD) : Nat :=
  let c0_i32_159 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_158 : BitVec 32 := 2#32
  let v148 : BitVec 32 := Scalar.muli v2 c2_i32_158
  let v149 : BitVec 32 := Scalar.addi c0_i32_159 v148
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_160 : BitVec 32 := 1#32
  let v150 : BitVec 32 := Scalar.muli v7 c1_i32_160
  let v151 : BitVec 32 := Scalar.addi v149 v150
  v151.toNat
def k0_dev10 (d0 : Dev nD) : Nat :=
  let c0_i32_193 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_192 : BitVec 32 := 2#32
  let v178 : BitVec 32 := Scalar.muli v6 c2_i32_192
  let v179 : BitVec 32 := Scalar.addi c0_i32_193 v178
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v180 : BitVec 32 := Scalar.muli v5 c1_i32_194
  let v181 : BitVec 32 := Scalar.addi v179 v180
  v181.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩
abbrev S2x256x2x256 : Shape := ⟨4, ![2, 256, 2, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S2x256x2x256, .bf16⟩
  | .hbm, ⟨2, _⟩ => ⟨S2x256x2x256, .f32⟩
  | .hbm, ⟨3, _⟩ => ⟨S_, .f32⟩
  | .hbm, ⟨4, _⟩ => ⟨S256x256, .f32⟩
  | .hbm, ⟨5, _⟩ => ⟨S256x256, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Values.lean ====
/-
The kernel's data: which device it exchanges with, which part of its communication buffer each transfer reads and
fills, and what that buffer and the result hold when the run is over.

Four devices stand on a two by two grid. Each holds a 256 × 256 block. The block's rows are cut in four chunks of 64
rows. A chunk is first exchanged with one neighbour and added, then the sum is exchanged with the other neighbour and
added: the two chunks of the upper half go along the first axis first, the two of the lower half along the second.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.BlockSum

open Cert.KernelIdeal Cert.KernelIdeal.Gen

open Idealize.ShloMosaic
open Idealize.ShloMosaic.TcCoe

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Neighbours -/

set_option backward.proofsInPublic true in
/-- The neighbour of a device along the first axis of the grid (`true`) or along the second (`false`). -/
def nb (b : Bool) (c : Dev nD) : Dev nD :=
  match b with
  | true => ⟨(c.val + 2) % 4, Nat.mod_lt _ (by decide)⟩
  | false => ⟨2 * (c.val / 2) + 1 - c.val % 2, by have := c.isLt; simp only [nD] at this; show _ < 4; omega⟩

/-- A device is its neighbour's neighbour. -/
theorem nb_nb (b : Bool) (c : Dev nD) : nb b (nb b c) = c := by revert b c; decide

/-- Passing to the neighbour permutes the devices. -/
def nbEquiv (b : Bool) : Dev nD ≃ Dev nD := ⟨nb b, nb b, nb_nb b, nb_nb b⟩

/-- The axis along which transfer `p` goes (transfers 0 to 3 are the first exchange, 4 to 7 the second). -/
def dir : Fin 8 → Bool := ![true, false, true, false, false, true, false, true]
/-- The device transfer `p` of device `c` goes to (and the one whose transfer `p` comes to `c`). -/
def peer (c : Dev nD) (p : Fin 8) : Dev nD := nb (dir p) c
/-- A device is its partner's partner. -/
theorem peer_peer (c : Dev nD) (p : Fin 8) : peer (peer c p) p = c := nb_nb _ _
/-- The first row of the chunk transfer `p` moves. -/
abbrev row : Fin 8 → ℕ := ![0, 128, 64, 192, 0, 128, 64, 192]
/-- The quarter of the communication buffer transfer `p` reads at its sender. -/
abbrev slotS : Fin 8 → ℕ := ![0, 0, 0, 0, 2, 2, 2, 2]
/-- The quarter of the communication buffer transfer `p` fills at its receiver. -/
abbrev slotD : Fin 8 → ℕ := ![1, 1, 1, 1, 3, 3, 3, 3]

/-- The first signal goes to the neighbour along the first axis. -/
theorem dev1_eq (c : Dev nD) : (⟨k0_dev1 c, k0_dev1_lt c⟩ : Dev nD) = nb true c := Fin.ext ((k0_dev1_eq c).trans (by revert c; decide))
/-- The second signal goes to the neighbour along the second axis. -/
theorem dev2_eq (c : Dev nD) : (⟨k0_dev2 c, k0_dev2_lt c⟩ : Dev nD) = nb false c := Fin.ext ((k0_dev2_eq c).trans (by revert c; decide))
/-- Transfer 0 goes to its partner. -/
theorem dev3_eq (c : Dev nD) : (⟨k0_dev3 c, k0_dev3_lt c⟩ : Dev nD) = peer c 0 := Fin.ext ((k0_dev3_eq c).trans (by revert c; decide))
/-- Transfer 1 goes to its partner. -/
theorem dev4_eq (c : Dev nD) : (⟨k0_dev4 c, k0_dev4_lt c⟩ : Dev nD) = peer c 1 := Fin.ext ((k0_dev4_eq c).trans (by revert c; decide))
/-- Transfer 2 goes to its partner. -/
theorem dev5_eq (c : Dev nD) : (⟨k0_dev5 c, k0_dev5_lt c⟩ : Dev nD) = peer c 2 := Fin.ext ((k0_dev5_eq c).trans (by revert c; decide))
/-- Transfer 3 goes to its partner. -/
theorem dev6_eq (c : Dev nD) : (⟨k0_dev6 c, k0_dev6_lt c⟩ : Dev nD) = peer c 3 := Fin.ext ((k0_dev6_eq c).trans (by revert c; decide))
/-- Transfer 4 goes to its partner. -/
theorem dev7_eq (c : Dev nD) : (⟨k0_dev7 c, k0_dev7_lt c⟩ : Dev nD) = peer c 4 := Fin.ext ((k0_dev7_eq c).trans (by revert c; decide))
/-- Transfer 5 goes to its partner. -/
theorem dev8_eq (c : Dev nD) : (⟨k0_dev8 c, k0_dev8_lt c⟩ : Dev nD) = peer c 5 := Fin.ext ((k0_dev8_eq c).trans (by revert c; decide))
/-- Transfer 6 goes to its partner. -/
theorem dev9_eq (c : Dev nD) : (⟨k0_dev9 c, k0_dev9_lt c⟩ : Dev nD) = peer c 6 := Fin.ext ((k0_dev9_eq c).trans (by revert c; decide))
/-- Transfer 7 goes to its partner. -/
theorem dev10_eq (c : Dev nD) : (⟨k0_dev10 c, k0_dev10_lt c⟩ : Dev nD) = peer c 7 := Fin.ext ((k0_dev10_eq c).trans (by revert c; decide))

/-! ## Contents -/

/-- Device `c`'s block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The axis of the first exchange of row `n`: the first for the upper half of the block, the second for the lower. -/
def way (n : ℕ) : Bool := decide (n < 128)

/-- After the first exchange: at each row, device `c`'s block plus the block of its neighbour along that row's first axis. -/
def half (c : Dev nD) : (cc0_stg0_0 : Ref sig .tc).ty.Contents (Elt F) := fun i =>
  FloatOps.addf (φ := .bf16) (xstg m ρ c i) (xstg m ρ (nb (way (i 0).val) c) i)

/-- After the second exchange: device `c`'s first sum plus that of its neighbour along the row's other axis. This is the
    kernel's result on device `c`. -/
def outAt (c : Dev nD) : (cc0_stg1_0 : Ref sig .tc).ty.Contents (Elt F) := fun i =>
  FloatOps.addf (φ := .bf16) (half m ρ c i) (half m ρ (nb (!way (i 0).val) c) i)

/-- A position of the communication buffer without its leading coordinate. -/
def rest (j : S4x256x256.Idx) : S256x256.Idx := fun a => j a.succ

/-- What device `c`'s communication buffer holds in the end: its own block, the neighbour's block, its first sum, the
    neighbour's first sum — each row from the neighbour that row is exchanged with. -/
def comm (c : Dev nD) : (cc0_scratch0 : Ref sig .tc).ty.Contents (Elt F) := fun j : S4x256x256.Idx =>
  match (j 0).val with
  | 0 => xstg m ρ c (rest j)
  | 1 => xstg m ρ (nb (way (j 1).val) c) (rest j)
  | 2 => half m ρ c (rest j)
  | _ => half m ρ (nb (!way (j 1).val) c) (rest j)

/-! ## Chunks -/

/-- Rows `r` to `r + 63` of quarter `s` of the communication buffer. -/
def ck (s r : ℕ) : Finset S4x256x256.Idx := Finset.univ.filter fun j => (j 0).val = s ∧ r ≤ (j 1).val ∧ (j 1).val < r + 64
/-- Quarter `s` of the communication buffer. -/
def slot (s : ℕ) : Finset S4x256x256.Idx := Finset.univ.filter fun j => (j 0).val = s
/-- Rows `r` to `r + 63` of the result block. -/
def oc (r : ℕ) : Finset S256x256.Idx := Finset.univ.filter fun j => r ≤ (j 0).val ∧ (j 0).val < r + 64

/-- When a position is in a chunk, -/
theorem mem_ck {s r : ℕ} {j : S4x256x256.Idx} : j ∈ ck s r ↔ (j 0).val = s ∧ r ≤ (j 1).val ∧ (j 1).val < r + 64 := by
  unfold ck; rw [Finset.mem_filter]; exact and_iff_right (Finset.mem_univ _)
/-- when in a quarter, -/
theorem mem_slot {s : ℕ} {j : S4x256x256.Idx} : j ∈ slot s ↔ (j 0).val = s := by
  unfold slot; rw [Finset.mem_filter]; exact and_iff_right (Finset.mem_univ _)
/-- and when in a chunk of the result. -/
theorem mem_oc {r : ℕ} {j : S256x256.Idx} : j ∈ oc r ↔ r ≤ (j 0).val ∧ (j 0).val < r + 64 := by
  unfold oc; rw [Finset.mem_filter]; exact and_iff_right (Finset.mem_univ _)

/-- The communication buffer, whole. -/
abbrev scM : Memref sig .tc .vmem S4x256x256 .bf16 := Memref.whole cc0_scratch0
/-- The staged block, whole. -/
abbrev xM : Memref sig .tc .vmem S256x256 .bf16 := Memref.whole cc0_stg0_0
/-- The result's staging buffer, whole. -/
abbrev oM : Memref sig .tc .vmem S256x256 .bf16 := Memref.whole cc0_stg1_0
/-- Chunk `r` of quarter `s` lies in the communication buffer. -/
abbrev InC (s r : ℕ) : Prop := ∀ a, (![s, r, 0] : Fin 3 → ℕ) a + S1x64x256.size a ≤ S4x256x256.size a
/-- That chunk as the rectangle that loads and stores go through, -/
abbrev cR (s r : ℕ) (h : InC s r) : Rect S4x256x256 := Rect.unit (s := S4x256x256) ![s, r, 0] S1x64x256.size h
/-- and as the view that transfers move. -/
abbrev cM (s r : ℕ) (h : InC s r) : Memref sig .tc .vmem S64x256 .bf16 :=
  (scM.slice (cR s r h) (fun _ => rfl)).squeeze S64x256 squeezes_S1x64x256_S64x256
/-- Rows `r` to `r + 63` lie in the result. -/
abbrev InO (r : ℕ) : Prop := ∀ a, (![r, 0] : Fin 2 → ℕ) a + S64x256.size a ≤ S256x256.size a
/-- Those rows as a rectangle. -/
abbrev oR (r : ℕ) (h : InO r) : Rect S256x256 := Rect.unit (s := S256x256) ![r, 0] S64x256.size h

/-- The rectangle at rows `r` of quarter `s` is that chunk. -/
theorem cR_set (s r : ℕ) (h : InC s r) : (cR s r h).set = ck s r := by
  ext j
  rw [Rect.mem_set_unit, mem_ck]
  constructor
  · intro hj
    have h0 := hj 0; have h1 := hj 1
    simp only [Matrix.cons_val_zero, Matrix.cons_val_one, Matrix.cons_val] at h0 h1
    exact ⟨by omega, h1.1, h1.2⟩
  · rintro ⟨h0, h1, h2⟩ a
    match a with
    | ⟨0, _⟩ => exact ⟨h0.ge, Nat.lt_succ_of_le h0.le⟩
    | ⟨1, _⟩ => exact ⟨h1, h2⟩
    | ⟨2, _⟩ => exact ⟨Nat.zero_le _, (show (j 2).val < 0 + 256 from by have : (j 2).val < 256 := (j 2).isLt; omega)⟩

/-- The memref of a chunk covers the chunk. -/
theorem cM_set (s r : ℕ) (h : InC s r) : (cM s r h).view.set = ck s r := by
  rw [← cR_set s r h]
  exact (View.set_reshape _ _).trans (View.set_slice_whole cc0_scratch0 (cR s r h))

/-- A load of the chunk reads inside the chunk. -/
theorem cR_on (s r : ℕ) (h : InC s r) : scM.view.setOn (cR s r h).toLoadRect.set = ck s r := by
  rw [← cR_set s r h]
  exact Finset.map_refl

/-- A store to the chunk writes inside the chunk. -/
theorem cA_on (s r : ℕ) (h : InC s r) : (scM.access (cR s r h)).setOn Finset.univ = ck s r := by
  rw [← cR_set s r h]
  exact (View.set_slice_whole cc0_scratch0 (cR s r h))

/-- The positions of the result's rectangle are the result's chunk, -/
theorem oR_set (r : ℕ) (h : InO r) : (oR r h).set = oc r := by
  ext j
  rw [Rect.mem_set_unit, mem_oc]
  constructor
  · intro hj; exact hj 0
  · rintro ⟨h0, h1⟩ a
    match a with
    | ⟨0, _⟩ => exact ⟨h0, h1⟩
    | ⟨1, _⟩ => exact ⟨Nat.zero_le _, (show (j 1).val < 0 + 256 from by have : (j 1).val < 256 := (j 1).isLt; omega)⟩
/-- as are those that a load of it reads, -/
theorem oR_on (r : ℕ) (h : InO r) : oM.view.setOn (oR r h).toLoadRect.set = oc r := by
  rw [← oR_set r h]
  exact Finset.map_refl
/-- and those that a store to it writes. -/
theorem oA_on (r : ℕ) (h : InO r) : (oM.access (oR r h)).setOn Finset.univ = oc r := by
  rw [← oR_set r h]
  exact (View.set_slice_whole cc0_stg1_0 (oR r h))

/-! ## The values the kernel moves -/

section values

/-- The first quarter holds the device's own block, -/
theorem comm_zero (c : Dev nD) {j : S4x256x256.Idx} (h : (j 0).val = 0) : comm m ρ c j = xstg m ρ c (rest j) := by
  show (match (j 0).val with | 0 => _ | 1 => _ | 2 => _ | _ => _) = _
  rw [h]; rfl
/-- the second the neighbour's, -/
theorem comm_one (c : Dev nD) {j : S4x256x256.Idx} (h : (j 0).val = 1) :
    comm m ρ c j = xstg m ρ (nb (way (j 1).val) c) (rest j) := by
  show (match (j 0).val with | 0 => _ | 1 => _ | 2 => _ | _ => _) = _
  rw [h]; rfl
/-- the third the first sum, -/
theorem comm_two (c : Dev nD) {j : S4x256x256.Idx} (h : (j 0).val = 2) : comm m ρ c j = half m ρ c (rest j) := by
  show (match (j 0).val with | 0 => _ | 1 => _ | 2 => _ | _ => _) = _
  rw [h]; rfl
/-- the fourth the neighbour's first sum. -/
theorem comm_three (c : Dev nD) {j : S4x256x256.Idx} (h : (j 0).val = 3) :
    comm m ρ c j = half m ρ (nb (!way (j 1).val) c) (rest j) := by
  show (match (j 0).val with | 0 => _ | 1 => _ | 2 => _ | _ => _) = _
  rw [h]; rfl

/-- The quarter of an entry of a chunk. -/
theorem cR_emb_zero (s r : ℕ) (h : InC s r) (y : S1x64x256.Idx) : ((cR s r h).emb y 0).val = s := by
  have : (y 0).val < 1 := (y 0).isLt
  show s + 1 * (y 0).val = s
  omega
/-- The row of an entry of a chunk. -/
theorem cR_emb_one (s r : ℕ) (h : InC s r) (y : S1x64x256.Idx) : ((cR s r h).emb y 1).val = r + (y 1).val := by
  show r + 1 * (y 1).val = _
  omega
/-- Chunks at the same rows of two quarters have the same rows and columns. -/
theorem cR_rest (s s' r : ℕ) (h : InC s r) (h' : InC s' r) (y : S1x64x256.Idx) :
    rest ((cR s r h).emb y) = rest ((cR s' r h').emb y) := by
  funext a
  match a with
  | ⟨0, _⟩ => rfl
  | ⟨1, _⟩ => rfl

/-- The axis transfer `p` goes along is the first axis of its chunk's rows in the first exchange, the other one in the
    second. -/
theorem way_row (p : Fin 8) {n : ℕ} (hn : n < 64) : way (row p + n) = if slotS p = 0 then dir p else !dir p := by
  have hc : (row p < 128 ∧ row p + 64 ≤ 128 ∧ (if slotS p = 0 then dir p else !dir p) = true)
      ∨ (128 ≤ row p ∧ (if slotS p = 0 then dir p else !dir p) = false) := by revert p; decide
  unfold way
  rcases hc with ⟨-, a, b⟩ | ⟨a, b⟩
  · rw [b]; exact decide_eq_true (by omega)
  · rw [b]; exact decide_eq_false (by omega)

/-- The sender's chunk is what the receiver's buffer is to hold at the place it lands. -/
theorem comm_peer (c : Dev nD) (p : Fin 8) (h : InC (slotS p) (row p)) (h' : InC (slotD p) (row p)) (y : S1x64x256.Idx) :
    comm m ρ c ((cR (slotS p) (row p) h).emb y) = comm m ρ (peer c p) ((cR (slotD p) (row p) h').emb y) := by
  have hw := way_row p (n := (y 1).val) (y 1).isLt
  have h0 := cR_emb_zero (slotS p) (row p) h y
  have h0' := cR_emb_zero (slotD p) (row p) h' y
  have h1' := cR_emb_one (slotD p) (row p) h' y
  have hr := cR_rest (slotS p) (slotD p) (row p) h h' y
  have hs : (slotS p = 0 ∧ slotD p = 1) ∨ (slotS p = 2 ∧ slotD p = 3) := by fin_cases p <;> simp
  rcases hs with ⟨a, b⟩ | ⟨a, b⟩
  · rw [a, if_pos rfl] at hw
    rw [comm_zero m ρ c (h0.trans a), comm_one m ρ (peer c p) (h0'.trans b), h1', hw, hr]
    exact congrFun (congrArg (xstg m ρ) (peer_peer c p).symm) _
  · rw [a, if_neg (by decide)] at hw
    rw [comm_two m ρ c (h0.trans a), comm_three m ρ (peer c p) (h0'.trans b), h1', hw, hr, Bool.not_not]
    exact congrFun (congrArg (half m ρ) (peer_peer c p).symm) _

/-- The first sum is the sum of the first two quarters. -/
theorem comm_sum (c : Dev nD) (r : ℕ) (h0 : InC 0 r) (h1 : InC 1 r) (h2 : InC 2 r) (y : S1x64x256.Idx) :
    comm m ρ c ((cR 2 r h2).emb y)
      = FloatOps.addf (φ := .bf16) (comm m ρ c ((cR 0 r h0).emb y)) (comm m ρ c ((cR 1 r h1).emb y)) := by
  rw [comm_zero m ρ c (cR_emb_zero 0 r h0 y), comm_one m ρ c (cR_emb_zero 1 r h1 y), comm_two m ρ c (cR_emb_zero 2 r h2 y),
    cR_rest 0 2 r h0 h2, cR_rest 1 2 r h1 h2]
  rfl

/-- What a transfer leaves at its landing place. -/
theorem send_value (c : Dev nD) (p : Fin 8) (h : InC (slotS p) (row p)) (h' : InC (slotD p) (row p))
    (fd : (cc0_scratch0 : Ref sig .tc).ty.Contents (Elt F)) :
    ∀ i ∈ ck (slotD p) (row p), (cM (slotD p) (row p) h').view.write (Elt F) fd
      ((cM (slotS p) (row p) h).view.read (Elt F) (comm m ρ c)) Finset.univ i = comm m ρ (peer c p) i := by
  intro i hi
  rw [← cM_set _ _ h'] at hi
  obtain ⟨x, -, rfl⟩ := Finset.mem_map.mp hi
  rw [View.write_emb_of_mem _ _ (Finset.mem_univ x)]
  exact comm_peer m ρ c p h h' _

/-- The first quarter of the communication buffer as a rectangle. -/
abbrev R0 : Rect S4x256x256 := Rect.unit (s := S4x256x256) ![0, 0, 0] S1x256x256.size inb_S4x256x256_S1x256x256_0_0_0
/-- The whole block as a rectangle. -/
abbrev xR : Rect S256x256 := Rect.unit (s := S256x256) ![0, 0] S256x256.size inb_S256x256_S256x256_0_0

/-- The positions of the first quarter's rectangle are the first quarter, -/
theorem R0_set : R0.set = slot 0 := by
  ext j
  rw [Rect.mem_set_unit, mem_slot]
  constructor
  · intro hj
    have h0 := hj 0
    simp only [Matrix.cons_val_zero] at h0
    omega
  · intro h0 a
    match a with
    | ⟨0, _⟩ => exact ⟨Nat.zero_le _, Nat.lt_succ_of_le h0.le⟩
    | ⟨1, _⟩ => exact ⟨Nat.zero_le _, (show (j 1).val < 0 + 256 from by have : (j 1).val < 256 := (j 1).isLt; omega)⟩
    | ⟨2, _⟩ => exact ⟨Nat.zero_le _, (show (j 2).val < 0 + 256 from by have : (j 2).val < 256 := (j 2).isLt; omega)⟩
/-- as are those that a load of it reads, -/
theorem R0_on : scM.view.setOn R0.toLoadRect.set = slot 0 := by
  rw [← R0_set]
  exact Finset.map_refl
/-- and those that a store to it writes. -/
theorem R0_acc : (scM.access R0).setOn Finset.univ = slot 0 := by
  rw [← R0_set]
  exact (View.set_slice_whole cc0_scratch0 R0)

/-- What the store of the device's own block leaves in the first quarter. -/
theorem first_value (c : Dev nD) (fd : (cc0_scratch0 : Ref sig .tc).ty.Contents (Elt F)) :
    ∀ i ∈ slot 0, (scM.access R0).write (Elt F) fd
      (k0_pay1 (xM.view.readAt (Elt F) xR.toLoadRect (xstg m ρ c))) Finset.univ i = comm m ρ c i := by
  intro i hi
  rw [← R0_acc] at hi
  obtain ⟨y, -, rfl⟩ := Finset.mem_map.mp hi
  refine (View.write_emb_of_mem (v := scM.access R0) _ _ (Finset.mem_univ y)).trans ?_
  have hx : xM.view.readAt (Elt F) xR.toLoadRect (xstg m ρ c) = xstg m ρ c :=
    Memref.readAt_unit_zero (Elt F) cc0_stg0_0 (by funext a; fin_cases a <;> rfl) _ _
  refine Eq.trans ?_ (comm_zero m ρ c (j := R0.emb y) (show 0 + 1 * (y 0).val = 0 by have : (y 0).val < 1 := (y 0).isLt; omega)).symm
  rw [hx]
  unfold k0_pay1
  rw [shapeCast_self]
  refine congrArg (xstg m ρ c) ?_
  have k : Shape.reshapeEquiv (s := S1x256x256) (s' := S256x256) (Eq.symm shapeCasts_S256x256_S1x256x256)
      (Shape.reshapeEquiv shapeCasts_S256x256_S1x256x256 y) = y := by
    rw [Shape.reshapeEquiv_reshapeEquiv, Shape.reshapeEquiv_self]
  have h := k.symm.trans (Shape.reshapeEquiv_cons_one (d := ![256, 256]) _ _)
  funext a
  refine Fin.ext ?_
  have ha := congrArg Fin.val (congrFun h a.succ)
  have hb : (rest (R0.emb y) a).val = (y a.succ).val := by
    match a with
    | ⟨0, _⟩ => show 0 + 1 * _ = _; omega
    | ⟨1, _⟩ => show 0 + 1 * _ = _; omega
  rw [hb]
  exact ha.symm

/-- The payload of a chunk's first sum is the entrywise sum of the two chunks read. -/
theorem pay2_apply (v w : Vec F S1x64x256 .bf16) (y : S1x64x256.Idx) :
    k0_pay2 v w y = FloatOps.addf (φ := .bf16) (v y) (w y) := by
  have e : Shape.reshapeEquiv shapeCasts_S1x64x256_S64x256 (Shape.reshapeEquiv shapeCasts_S64x256_S1x64x256 y) = y := by
    rw [Shape.reshapeEquiv_reshapeEquiv, Shape.reshapeEquiv_self]
  show FloatOps.addf (φ := .bf16) (v (Shape.reshapeEquiv shapeCasts_S1x64x256_S64x256 (Shape.reshapeEquiv shapeCasts_S64x256_S1x64x256 y)))
    (w (Shape.reshapeEquiv shapeCasts_S1x64x256_S64x256 (Shape.reshapeEquiv shapeCasts_S64x256_S1x64x256 y))) = _
  rw [e]

/-- The payload of a chunk of the result is the entrywise sum of the two chunks read. -/
theorem pay6_apply (v w : Vec F S1x64x256 .bf16) (x : S64x256.Idx) :
    k0_pay6 v w x = FloatOps.addf (φ := .bf16) (v (Shape.reshapeEquiv shapeCasts_S1x64x256_S64x256 x))
      (w (Shape.reshapeEquiv shapeCasts_S1x64x256_S64x256 x)) := rfl

/-- What the store of a chunk's first sum leaves. -/
theorem mid_value (c : Dev nD) (r : ℕ) (h0 : InC 0 r) (h1 : InC 1 r) (h2 : InC 2 r)
    (fd : (cc0_scratch0 : Ref sig .tc).ty.Contents (Elt F)) :
    ∀ i ∈ ck 2 r, (scM.access (cR 2 r h2)).write (Elt F) fd
      (k0_pay2 (scM.view.readAt (Elt F) (cR 0 r h0).toLoadRect (comm m ρ c))
        (scM.view.readAt (Elt F) (cR 1 r h1).toLoadRect (comm m ρ c))) Finset.univ i = comm m ρ c i := by
  intro i hi
  rw [← cA_on 2 r h2] at hi
  obtain ⟨y, -, rfl⟩ := Finset.mem_map.mp hi
  refine (View.write_emb_of_mem (v := scM.access (cR 2 r h2)) _ _ (Finset.mem_univ y)).trans ?_
  exact (pay2_apply _ _ y).trans (comm_sum m ρ c r h0 h1 h2 y).symm

/-- What the store of a chunk of the result leaves. -/
theorem out_value (c : Dev nD) (r : ℕ) (h2 : InC 2 r) (h3 : InC 3 r) (ho : InO r)
    (fd : (cc0_stg1_0 : Ref sig .tc).ty.Contents (Elt F)) :
    ∀ i ∈ oc r, (oM.access (oR r ho)).write (Elt F) fd
      (k0_pay6 (scM.view.readAt (Elt F) (cR 2 r h2).toLoadRect (comm m ρ c))
        (scM.view.readAt (Elt F) (cR 3 r h3).toLoadRect (comm m ρ c))) Finset.univ i = outAt m ρ c i := by
  intro i hi
  rw [← oA_on r ho] at hi
  obtain ⟨x, -, rfl⟩ := Finset.mem_map.mp hi
  refine (View.write_emb_of_mem (v := oM.access (oR r ho)) _ _ (Finset.mem_univ x)).trans ?_
  have hy := Shape.reshapeEquiv_cons_one (d := ![64, 256]) shapeCasts_S1x64x256_S64x256 x
  have hr : ∀ s (h : InC s r), rest ((cR s r h).emb (Fin.cons ⟨0, Nat.one_pos⟩ x)) = (oR r ho).emb x := fun s h => by
    funext a
    match a with
    | ⟨0, _⟩ => rfl
    | ⟨1, _⟩ => rfl
  have h1 : ∀ s (h : InC s r), ((cR s r h).emb (Fin.cons ⟨0, Nat.one_pos⟩ x) 1).val = ((oR r ho).emb x 0).val := fun s h => rfl
  have e2 := (comm_two m ρ c (cR_emb_zero 2 r h2 (Fin.cons ⟨0, Nat.one_pos⟩ x))).trans (congrArg (half m ρ c) (hr 2 h2))
  have e3 := (comm_three m ρ c (cR_emb_zero 3 r h3 (Fin.cons ⟨0, Nat.one_pos⟩ x)))
  rw [hr 3 h3, h1 3 h3] at e3
  rw [← hy] at e2 e3
  exact (pay6_apply _ _ x).trans (congrArg₂ (FloatOps.addf (φ := .bf16)) e2 e3)

end values

end Cert.BlockSum

end
-- ==== Proof.Schedule.lean ====
/-
Who signals whom, with how much, and what each signal hands over.

Each device has seventeen semaphores in the protocol: the runtime's barrier semaphore and, for each of its eight
transfers, one on which its own copy reports that the source was read and one on which the partner's copy reports that the
data has landed. Every one of them is used in a single round.

The barrier takes one unit from each neighbour. A neighbour's unit hands over the four places of that neighbour's
communication buffer this device is going to fill. A transfer's source semaphore gives the half share of the source chunk
back; its landing semaphore gives the landed chunk, at its definite contents.
-/
module

public import proofs.«01_k».proof.Proof.Values

@[expose] public section

noncomputable section

namespace Cert.BlockSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost state, with two duty names per round. -/
abbrev UB : Type := URounds (GSem nD τ sig) Bool
/-- The ghost state: the staging pipeline's and the protocol's. -/
abbrev UU : Type := UR sig nD τ × UB

local notation "𝕄" => MT nD τ sig Unit (Elt F) ℕ UU ℕ

/-- Where the pipeline's part lies in it, -/
abbrev EP : Emb (UR sig nD τ) (MT nD τ sig Unit (Elt F) ℕ UU ℕ) := embL
/-- and where the protocol's does. -/
abbrev ER : Emb UB (MT nD τ sig Unit (Elt F) ℕ UU ℕ) := embR

variable (m : (ℓ : Loc nD τ sig) → Buf (Elt F) ℓ) (ρ : Dev nD → PrngReg)

/-! ## Semaphores -/

/-- The runtime's barrier semaphore. -/
abbrev barS : Sem sig := (SemArray.scalar (sig.barrier 0 rfl) : Sems sig S_).sem
/-- The source semaphore of transfer `p`. -/
def sSem (p : Fin 8) : DmaSem sig := ⟨2 + p.val, by have := p.isLt; show 2 + p.val < 18; omega⟩
/-- The landing semaphore of transfer `p`. -/
def rSem (p : Fin 8) : DmaSem sig := ⟨10 + p.val, by have := p.isLt; show 10 + p.val < 18; omega⟩

/-- Device `c`'s barrier. -/
abbrev barCell (c : Dev nD) : GSem nD τ sig := ((c : Thread nD τ), .reg barS)
/-- The source semaphore of device `c`'s transfer `p`: it counts what has been read. -/
abbrev sCell (c : Dev nD) (p : Fin 8) : GSem nD τ sig := ((c : Thread nD τ), .dma (sSem p))
/-- The landing semaphore of transfer `p` at device `c`: it counts what its partner's transfer has written. -/
abbrev rCell (c : Dev nD) (p : Fin 8) : GSem nD τ sig := ((c : Thread nD τ), .dma (rSem p))

/-- Names for one device's semaphores: source semaphores left, landing semaphores right; -/
abbrev Kd : Type := Fin 8 ⊕ Fin 8
/-- the barrier besides. -/
abbrev Kx : Type := Unit ⊕ Kd

/-- The transfer semaphore that a name stands for, -/
abbrev osem : Kd → SemLoc sig := Sum.elim (fun p => .dma (sSem p)) (fun p => .dma (rSem p))
/-- the semaphore any of the names stands for, -/
abbrev csem : Kx → SemLoc sig := Sum.elim (fun _ => .reg barS) osem
/-- and that of a device. -/
abbrev kcell (ck : Dev nD × Kx) : GSem nD τ sig := ((ck.1 : Thread nD τ), csem ck.2)

/-- The credit of one transfer: the units a chunk of 64 rows counts for. -/
abbrev N : ℕ := (cM 0 0 inb_S4x256x256_S1x64x256_0_0_0).view.dmaCredit
/-- Every chunk counts for the same. -/
theorem N_eq (s r : ℕ) (h : InC s r) : (cM s r h).view.dmaCredit = N := rfl
/-- A chunk's transfer counts for something. -/
theorem N_pos : 0 < N := View.dmaCredit_pos _ (by decide)

/-! ## Pieces of memory -/

/-- A share of a chunk of device `c`'s communication buffer. -/
def pts (q : PosShare TreeShare) (c : Dev nD) (s r : ℕ) (f : Buf (Elt F) ((c : Thread nD τ).loc cc0_scratch0)) : sProp 𝕄 :=
  (c : Thread nD τ).loc cc0_scratch0 ↦[ck s r]{q} f
/-- A chunk of device `c`'s result block. -/
def ots (c : Dev nD) (r : ℕ) (f : Buf (Elt F) ((c : Thread nD τ).loc cc0_stg1_0)) : sProp 𝕄 :=
  (c : Thread nD τ).loc cc0_stg1_0 ↦[oc r]{fullShare} f

omit [FloatOps F] in
/-- A chunk's ownership can be kept in an invariant. -/
instance pts_storable (q c s r f) : BI.Storable (upEmb : UEmb _ 𝕄) (pts (F := F) q c s r f) := by unfold pts; infer_instance

/-- The place transfer `p` of device `c` fills, at its partner, whatever it holds. -/
def land (c : Dev nD) (p : Fin 8) : sProp 𝕄 := iprop(∃ f, pts fullShare (peer c p) (slotD p) (row p) f)

omit [FloatOps F] in
/-- So can a transfer's landing place. -/
instance land_storable (c p) : BI.Storable (upEmb : UEmb _ 𝕄) (land (F := F) c p) := by unfold land; infer_instance

/-- What the neighbour along the first axis hands over at the barrier; -/
def barX (c : Dev nD) : sProp 𝕄 := iprop(land c 0 ∗ land c 2 ∗ land c 5 ∗ land c 7)
/-- what the one along the second axis does. -/
def barY (c : Dev nD) : sProp 𝕄 := iprop(land c 1 ∗ land c 3 ∗ land c 4 ∗ land c 6)
/-- The source chunk's half share, back. -/
def sPay (c : Dev nD) (p : Fin 8) : sProp 𝕄 := pts fullShare.left c (slotS p) (row p) (comm m ρ c)
/-- The landed chunk. -/
def rPay (c : Dev nD) (p : Fin 8) : sProp 𝕄 := pts fullShare c (slotD p) (row p) (comm m ρ c)

/-- What semaphore `q` of device `c` hands over. -/
def xPay (c : Dev nD) (q : DmaSem sig) : sProp 𝕄 :=
  if q.val < 10 then sPay m ρ c ⟨(q.val - 2) % 8, Nat.mod_lt _ (by decide)⟩ else rPay m ρ c ⟨(q.val - 10) % 8, Nat.mod_lt _ (by decide)⟩

/-- Source semaphore `p` hands over the source chunk's half share. -/
theorem xPay_s (c : Dev nD) (p : Fin 8) : xPay m ρ c (sSem p) = sPay m ρ c p := by
  unfold xPay
  rw [if_pos (show (sSem p).val < 10 by show 2 + p.val < 10; omega)]
  exact congrArg _ (Fin.ext (show (2 + p.val - 2) % 8 = p.val by omega))
/-- Landing semaphore `p` hands over the landed chunk. -/
theorem xPay_r (c : Dev nD) (p : Fin 8) : xPay m ρ c (rSem p) = rPay m ρ c p := by
  unfold xPay
  rw [if_neg (show ¬ (rSem p).val < 10 by show ¬ 10 + p.val < 10; omega)]
  exact congrArg _ (Fin.ext (show (10 + p.val - 10) % 8 = p.val by omega))

/-! ## The schedule -/

/-- The duties a semaphore has in its one round: both for the barrier, one for a transfer's semaphores. -/
def dutiesOf : SemLoc sig → Finset Bool
  | .reg s => if s = barS then Finset.univ else ∅
  | .dma q => if 2 ≤ q.val then {false} else ∅

/-- What a semaphore of device `c` hands over for the duty marked `d`. -/
def payOf (c : Dev nD) (d : Bool) : SemLoc sig → sProp 𝕄
  | .reg _ => if d then barX c else barY c
  | .dma q => xPay m ρ c q

/-- One round: the barrier's two duties of one unit each, a transfer semaphore's one duty of the transfer's credit. -/
def sched : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := payOf m ρ g.1.1 d g.2
  amount_pos g _ _ _ := by
    rcases g with ⟨_, _ | _⟩
    · exact Nat.one_pos
    · exact N_pos

/-- Whatever the schedule hands over can be kept in an invariant. -/
instance sched_payload_storable (g : GSem nD τ sig) (r : ℕ) (d : Bool) :
    BI.Storable (upEmb : UEmb _ 𝕄) ((sched (F := F) m ρ).payload g r d) := by
  rcases g with ⟨c, q | q⟩
  · show BI.Storable upEmb (if d then barX c.1 else barY c.1)
    unfold barX barY
    split <;> infer_instance
  · show BI.Storable upEmb (xPay m ρ c.1 q)
    unfold xPay sPay rPay
    split <;> infer_instance

section Sched
variable (c : Dev nD) (p : Fin 8) (d : Bool)

/-- A barrier has two duties, -/
theorem duties_bar : (sched (F := F) m ρ).duties (barCell c) 0 = Finset.univ := by
  dsimp only [sched]; rw [if_pos ⟨rfl, rfl⟩]; dsimp only [dutiesOf]; exact if_pos rfl
/-- a source semaphore one, -/
theorem duties_s : (sched (F := F) m ρ).duties (sCell c p) 0 = {false} := by
  dsimp only [sched]; rw [if_pos ⟨rfl, rfl⟩]; exact if_pos (show 2 ≤ 2 + p.val by omega)
/-- a landing semaphore one, -/
theorem duties_r : (sched (F := F) m ρ).duties (rCell c p) 0 = {false} := by
  dsimp only [sched]; rw [if_pos ⟨rfl, rfl⟩]; exact if_pos (show 2 ≤ 10 + p.val by omega)
/-- and there is only one round. -/
theorem duties_later (g : GSem nD τ sig) : ∀ r, 1 ≤ r → (sched (F := F) m ρ).duties g r = ∅ :=
  fun r hr => if_neg fun h => by omega

/-- A signal of the barrier counts one, -/
theorem amount_bar : (sched (F := F) m ρ).amount (barCell c) 0 d = 1 := rfl
/-- a transfer counts its size at its source semaphore, -/
theorem amount_s : (sched (F := F) m ρ).amount (sCell c p) 0 d = N := rfl
/-- and the same at its landing semaphore. -/
theorem amount_r : (sched (F := F) m ρ).amount (rCell c p) 0 d = N := rfl

/-- The barrier is full at two, -/
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- a source semaphore at a transfer's size, -/
theorem expect_s : (sched (F := F) m ρ).expect (sCell c p) 0 = N := by
  unfold Schedule.expect Schedule.amountOf; rw [duties_s, Finset.sum_singleton, amount_s]
/-- and a landing semaphore at the same. -/
theorem expect_r : (sched (F := F) m ρ).expect (rCell c p) 0 = N := by
  unfold Schedule.expect Schedule.amountOf; rw [duties_r, Finset.sum_singleton, amount_r]

/-- What the neighbour along the first axis hands over at the barrier, -/
theorem payload_bar_true : (sched (F := F) m ρ).payload (barCell c) 0 true = barX c := rfl
/-- what the neighbour along the second does, -/
theorem payload_bar_false : (sched (F := F) m ρ).payload (barCell c) 0 false = barY c := rfl
/-- what a source semaphore hands over, -/
theorem payload_s : (sched (F := F) m ρ).payload (sCell c p) 0 d = sPay m ρ c p := xPay_s m ρ c p
/-- and what a landing semaphore does. -/
theorem payload_r : (sched (F := F) m ρ).payload (rCell c p) 0 d = rPay m ρ c p := xPay_r m ρ c p

/-- What a wait for the whole round is given, at each kind of semaphore. -/
theorem rest_bar : bigSep ((sched (F := F) m ρ).duties (barCell c) 0 \ ∅) (fun d => (sched (F := F) m ρ).payload (barCell c) 0 d)
    = iprop(barX c ∗ barY c) := by
  rw [Finset.sdiff_empty, duties_bar, bigSep_univ_eq_bigSepL [true, false] (by decide) (by decide), bigSepL_cons_cons, bigSepL_singleton]
  rfl
/-- All that a source semaphore hands over is its one payload, -/
theorem rest_s : bigSep ((sched (F := F) m ρ).duties (sCell c p) 0 \ ∅) (fun d => (sched (F := F) m ρ).payload (sCell c p) 0 d) = sPay m ρ c p := by
  rw [Finset.sdiff_empty, duties_s, bigSep_singleton, payload_s]
/-- and all that a landing semaphore does, its one. -/
theorem rest_r : bigSep ((sched (F := F) m ρ).duties (rCell c p) 0 \ ∅) (fun d => (sched (F := F) m ρ).payload (rCell c p) 0 d) = rPay m ρ c p := by
  rw [Finset.sdiff_empty, duties_r, bigSep_singleton, payload_r]

end Sched

/-! ## What each device owes, and the order of waiting -/

/-- The transfer issued when `n + 1` remain. -/
def nth (n : ℕ) : Fin 8 := ⟨(7 - n) % 8, Nat.mod_lt _ (by decide)⟩

/-- What device `c` owes its partners' landing semaphores when its last `n` transfers remain to be issued. -/
def OS (c : Dev nD) : ℕ → CellTallies nD τ sig Unit
  | 0 => 0
  | n + 1 => OS c n + tallyAt (rCell (peer c (nth n)) (nth n)) () N

/-- What is owed before transfer `p` is issued is what is owed after it, and that transfer. -/
theorem OS_succ (c : Dev nD) (p : Fin 8) (j : ℕ) (hj : nth j = p) :
    OS c (j + 1) = OS c j + tallyAt (rCell (peer c p) p) () N := by subst hj; rfl

/-- What device `c` owes after its first signal: its eight transfers and one unit to the barrier of its neighbour along the
    second axis. -/
def O₁ (c : Dev nD) : CellTallies nD τ sig Unit := OS c 8 + tallyAt (barCell (nb false c)) () 1
/-- What device `c` owes at launch: besides, one unit to the barrier of its neighbour along the first axis. -/
def O₀ (c : Dev nD) : CellTallies nD τ sig Unit := O₁ c + tallyAt (barCell (nb true c)) () 1

/-- The one label of a device's semaphores. -/
def L (g : GSem nD τ sig) : Finset Unit := if g.1.2 = .tc then {()} else ∅
/-- Waiting order: what is waited on at a lower level never waits for a higher one's waiter. The first exchange's landings
    are at 2, the second's at 3; the barrier at 1; the rest at 0. -/
def lvS : SemLoc sig → ℕ
  | .reg _ => 1
  | .dma q => if q.val < 10 then 0 else if q.val < 14 then 2 else 3
/-- The level of a semaphore, on every device alike. -/
def lv (g : GSem nD τ sig) (_ : Unit) : ℕ := lvS g.2

/-- Off the devices' main threads there is no label, -/
theorem L_of_ne (g : GSem nD τ sig) (h : g.1.2 ≠ .tc) : L g = ∅ := if_neg h
/-- on them there is one. -/
theorem L_tc (c : Dev nD) (sm : SemLoc sig) : L ((c : Thread nD τ), sm) = {()} := if_pos rfl

/-- The landing semaphores' levels: two in the first exchange, three in the second. -/
theorem lv_r (p : Fin 8) : lvS (.dma (rSem p)) = if p.val < 4 then 2 else 3 := by
  show (if 10 + p.val < 10 then 0 else if 10 + p.val < 14 then 2 else 3) = _
  rw [if_neg (by omega)]
  by_cases h : p.val < 4
  · rw [if_pos h, if_pos (by omega)]
  · rw [if_neg h, if_neg (by omega)]

/-- What is owed to transfers is owed to landing semaphores of the transfers that remain. -/
theorem OS_pos {c : Dev nD} {g : GSem nD τ sig} {u : Unit} : ∀ {n : ℕ}, 0 < OS c n g u →
    ∃ k < n, g = rCell (peer c (nth k)) (nth k)
  | 0, h => absurd h (Nat.lt_irrefl 0)
  | n + 1, h => by
    unfold OS at h
    rw [Pi.add_apply, Finsupp.add_apply, tallyAt_apply] at h
    by_cases hg : g = rCell (peer c (nth n)) (nth n)
    · exact ⟨n, Nat.lt_succ_self n, hg⟩
    · rw [if_neg (fun h' => hg h'.1), Nat.add_zero] at h
      obtain ⟨k, hk, e⟩ := OS_pos h
      exact ⟨k, Nat.lt_succ_of_lt hk, e⟩

/-- A device owes something at launch only to its transfers' landing semaphores and its neighbours' barriers. -/
theorem O₀_pos {c : Dev nD} {g : GSem nD τ sig} {u : Unit} (h : 0 < O₀ c g u) :
    (∃ k < 8, g = rCell (peer c (nth k)) (nth k)) ∨ g = barCell (nb false c) ∨ g = barCell (nb true c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (OS_pos h)

/-- A wait on one of the device's own semaphores is allowed when everything owed is at a higher level. -/
theorem mayWait_of (c : Dev nD) (sm : SemLoc sig) (O : CellTallies nD τ sig Unit)
    (h : ∀ g u, 0 < O g u → g.1.2 = .tc ∧ lvS sm < lvS g.2) : (levAts L lv : sProp 𝕄) ⊢ MayWait (c : Thread nD τ) sm () O :=
  MayOwe.of_cut (L := L) (lev := lv) (lvS sm)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- Staging waits, before the first effect of the body. -/
theorem mayWait_stage (c : Dev nD) (sm : SemLoc sig) (h : lvS sm = 0) (O : CellTallies nD τ sig Unit) (hO : O = O₀ c ∨ O = 0) :
    (levAts L lv : sProp 𝕄) ⊢ MayWait (c : Thread nD τ) sm () O := by
  refine mayWait_of c sm O fun g u hg => ?_
  rw [h]
  rcases hO with rfl | rfl
  · rcases O₀_pos hg with ⟨k, -, rfl⟩ | rfl | rfl
    · refine ⟨rfl, ?_⟩
      show 0 < lvS _
      rw [lv_r]; split <;> decide
    · exact ⟨rfl, Nat.one_pos⟩
    · exact ⟨rfl, Nat.one_pos⟩
  · exact absurd hg (Nat.lt_irrefl 0)

/-- The wait on the barrier, all transfers still to be issued. -/
theorem mayWait_bar (c : Dev nD) : (levAts L lv : sProp 𝕄) ⊢ MayWait (c : Thread nD τ) (.reg barS) () (OS c 8) :=
  mayWait_of c _ _ fun g u hg => by
    obtain ⟨k, -, rfl⟩ := OS_pos hg
    refine ⟨rfl, ?_⟩
    show 1 < lvS _
    rw [lv_r]; split <;> decide

/-- The wait on the landing of transfer `p`: of the first exchange while only second-exchange transfers remain, or of any
    when none does. -/
theorem mayWait_r (c : Dev nD) (p : Fin 8) (n : ℕ) (hn : n = 0 ∨ (p.val < 4 ∧ n ≤ 4)) :
    (levAts L lv : sProp 𝕄) ⊢ MayWait (c : Thread nD τ) (.dma (rSem p)) () (OS c n) := by
  refine mayWait_of c _ _ fun g u hg => ?_
  obtain ⟨k, hk, rfl⟩ := OS_pos hg
  refine ⟨rfl, ?_⟩
  rcases hn with rfl | ⟨hp, hn⟩
  · exact absurd hk (Nat.not_lt_zero k)
  · show lvS _ < lvS _
    rw [lv_r, lv_r, if_pos hp, if_neg (show ¬ (nth k).val < 4 by show ¬ (7 - k) % 8 < 4; omega)]
    decide

/-- The wait on a source semaphore, when no transfer remains. -/
theorem mayWait_s (c : Dev nD) (p : Fin 8) : (levAts L lv : sProp 𝕄) ⊢ MayWait (c : Thread nD τ) (.dma (sSem p)) () (OS c 0) :=
  mayWait_of c _ _ fun g u hg => absurd hg (Nat.lt_irrefl 0)

/-! ## Ghost state -/

/-- The facts all devices share: every semaphore's invariant, under the names `K`, that each has reached round 0, and the
    levels. -/
def recs (K : Dev nD × Kx → ℕ) : sProp 𝕄 :=
  iprop((bigSep Finset.univ fun ck : Dev nD × Kx => cellInv ER (sched m ρ) (K ck) (kcell ck))
    ∗ (bigSep Finset.univ fun ck : Dev nD × Kx => reached ER (kcell ck) 0))

/-- The records may be used again and again. -/
instance recs_persistent (K : Dev nD × Kx → ℕ) : BI.Persistent (recs m ρ K) := by unfold recs; infer_instance

/-- They hold every semaphore's invariant, -/
theorem recs_inv (K : Dev nD × Kx → ℕ) (ck : Dev nD × Kx) : recs m ρ K ⊢ cellInv ER (sched m ρ) (K ck) (kcell ck) := by
  unfold recs; exact sep_elim_left.trans (bigSep_elim (Finset.mem_univ ck))
/-- and that every semaphore's round has begun. -/
theorem recs_reached (K : Dev nD × Kx → ℕ) (ck : Dev nD × Kx) : recs m ρ K ⊢ reached ER (kcell ck) 0 := by
  unfold recs; exact sep_elim_right.trans (bigSep_elim (Finset.mem_univ ck))

/-- What device `c` has towards sending transfer `p`: its place at the source semaphore and the duty tokens of both ends. -/
def toSend (c : Dev nD) (p : Fin 8) : sProp 𝕄 :=
  iprop(atPos ER (sCell c p) 0 ∅ 0 ∗ dutyTok ER (sCell c p) 0 false ∗ dutyTok ER (rCell (peer c p) p) 0 false)
/-- What it has of it once issued. -/
def sent (c : Dev nD) (p : Fin 8) : sProp 𝕄 := iprop(atPos ER (sCell c p) 0 ∅ 0 ∗ cred (tallyAt (sCell c p) () N))
/-- What it has towards receiving transfer `p`. -/
def toRecv (c : Dev nD) (p : Fin 8) : sProp 𝕄 := iprop(atPos ER (rCell c p) 0 ∅ 0 ∗ cred (tallyAt (rCell c p) () N))
/-- Its place at the barrier and the tokens it signals with. -/
def toBar (c : Dev nD) : sProp 𝕄 :=
  iprop(atPos ER (barCell c) 0 ∅ 0 ∗ dutyTok ER (barCell (nb true c)) 0 true ∗ dutyTok ER (barCell (nb false c)) 0 false)

/-- What device `c`'s body starts from. -/
def start (c : Dev nD) : sProp 𝕄 :=
  iprop((∃ K, recs m ρ K ∗ toBar c ∗ (bigSep Finset.univ fun p => toSend c p) ∗ bigSep Finset.univ fun p => atPos ER (rCell c p) 0 ∅ 0)
    ∗ cred (tallyAt (barCell c) () 2) ∗ (bigSep Finset.univ fun p => cred (tallyAt (rCell c p) () N)) ∗ levAts L lv)

end Cert.BlockSum

end
-- ==== Proof.Steps.lean ====
/-
One rule per kind of effect of the kernel, at this kernel's chunks and semaphores.
-/
module

public import proofs.«01_k».proof.Proof.Schedule

@[expose] public section

noncomputable section

namespace Cert.BlockSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop needs a variant. -/
abbrev 𝒱₀ : Variants := Variants.none

/-- Running `e` on device `c` ends in a state satisfying `Q`. -/
abbrev run {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-- Device `c` still owes its last `n` transfers. -/
def ow (c : Dev nD) (n : ℕ) : sProp 𝕄 := iprop(∃ W, owes (c : Thread nD τ) (OS c n) W)

omit [FloatOps F] in
/-- A chunk held through its memref. -/
theorem pts_eq (q : PosShare TreeShare) (c : Dev nD) (s r : ℕ) (h : InC s r) (f : Buf (Elt F) ((c : Thread nD τ).loc cc0_scratch0)) :
    ((cM s r h).view.loc (c : Thread nD τ) ↦[(cM s r h).view.set]{q} f : sProp 𝕄) = pts q c s r f := by
  rw [cM_set]; rfl

/-- The source chunk's half share is what the source semaphore hands back. -/
theorem src_pay (c : Dev nD) (p : Fin 8) (h : InC (slotS p) (row p)) :
    ((cM (slotS p) (row p) h).view.loc (c : Thread nD τ) ↦[(cM (slotS p) (row p) h).view.set]{fullShare.left} comm m ρ c : sProp 𝕄)
      ⊢ (sched (F := F) m ρ).payload (sCell c p) 0 false := by
  rw [payload_s, pts_eq]; exact BI.Entails.refl _

/-- The landing place with the source chunk written over it is what the landing semaphore hands over. -/
theorem dst_pay (c : Dev nD) (p : Fin 8) (h : InC (slotS p) (row p)) (h' : InC (slotD p) (row p))
    (fd : Buf (Elt F) ((peer c p : Thread nD τ).loc cc0_scratch0)) :
    ((cM (slotD p) (row p) h').view.loc (peer c p : Thread nD τ) ↦[(cM (slotD p) (row p) h').view.set]{fullShare}
        (cM (slotD p) (row p) h').view.write (Elt F) fd ((cM (slotS p) (row p) h).view.read (Elt F) (comm m ρ c)) Finset.univ : sProp 𝕄)
      ⊢ (sched (F := F) m ρ).payload (rCell (peer c p) p) 0 false := by
  rw [payload_r]
  refine (Entails.of_eq (pts_eq fullShare (peer c p) _ _ h' _)).trans ?_
  unfold rPay pts
  exact Entails.of_eq (pointsTo_congr (send_value m ρ c p h h' fd))

variable (K : Dev nD × Kx → ℕ)

/-- Issuing transfer `p`: the source chunk's half share and the landing place go in; what is left is the right to wait on
    the source semaphore, and one transfer less is owed. -/
theorem send_step (c n : Dev nD) (p : Fin 8) (j s s' r : ℕ) (hn : n = peer c p) (hj : nth j = p) (hs : slotS p = s) (hd : slotD p = s')
    (hr : row p = r) {sS sR : DmaSem sig} (hS : sS = sSem p) (hR : sR = rSem p) {h : InC s r} {h' : InC s' r}
    {hsc : (cM s' r h' : Memref sig (Dev.tc n : Thread nD τ).2.kind .vmem S64x256 .bf16).view.ref.isScScratch = false}
    {hsrc : (cM s r h).view.WordExact} {hdst : (cM s' r h').view.WordExact}
    {hsem : DmaTarget.Typed .vmem (.dma sR) (.remote (Dev.tc n : Thread nD τ) (cM s' r h') (.dma sS) hsc)}
    {α : Type} {Q : α → sProp 𝕄} {k : PUnit → Prog (TpuEff nD τ sig (Elt F) Λ₀ .tc) α} :
    iprop(recs m ρ K ∗ toSend c p ∗ pts fullShare.left c s r (comm m ρ c) ∗ land c p ∗ ow c (j + 1))
      ⊢ iprop(((sent c p ∗ ow c j) -∗ run c (k ⟨⟩) Q)
          -∗ run c (.op (.enqueueDma (cM s r h) (.remote (Dev.tc n : Thread nD τ) (cM s' r h') (.dma sS) hsc) (.dma sR) hsrc hdst hsem) k) Q) := by
  subst hn hs hd hr hS hR
  unfold toSend sent land ow
  iintro ⟨#HR, ⟨Hat, Ht1, Ht2⟩, Hsrc, ⟨%fd, Hdst⟩, ⟨%W, HO⟩⟩ Hk
  ihave Hsrc := (Entails.of_eq (pts_eq _ c _ _ h _).symm) $$ Hsrc
  ihave Hdst := (Entails.of_eq (pts_eq _ (peer c p) _ _ h' fd).symm) $$ Hdst
  iapply (Rounds.wp_send_pointsTo 𝒱₀ ER (sched m ρ) (c : Thread nD τ) none (κ₁ := K (c, .inr (.inl p))) (κ₂ := K (peer c p, .inr (.inr p)))
    (c' := (peer c p : Thread nD τ)) (src := cM _ _ h) (dst := cM _ _ h') (sS := .dma (sSem p)) (sem := .dma (rSem p)) (fs := comm m ρ c)
    (r₁ := 0) (r₂ := 0) (d₁ := false) (d₂ := false) (fd := fd)
    (by rw [duties_s]; exact Finset.mem_singleton_self _) (by rw [duties_r]; exact Finset.mem_singleton_self _)
    () () N (N_eq _ _ h') (amount_s m ρ c p false) (amount_r m ρ (peer c p) p false) (OS c j) (OS_succ c p j hj) (W := W)
    (src_pay m ρ c p h) (dst_pay m ρ c p h h' fd)) $$ [Hsrc Hdst HO Ht1 Ht2]
  · isplitr; · iapply (recs_inv m ρ K (c, .inr (.inl p))); iexact HR
    isplitr; · iapply (recs_inv m ρ K (peer c p, .inr (.inr p))); iexact HR
    isplitl [Hsrc]; · iexact Hsrc
    isplitl [Hdst]; · iexact Hdst
    isplitl [HO]; · iexact HO
    isplitl [Ht1]; · iexact Ht1
    isplitr; · iapply (recs_reached m ρ K (c, .inr (.inl p))); iexact HR
    isplitl [Ht2]; · iexact Ht2
    iapply (recs_reached m ρ K (peer c p, .inr (.inr p))); iexact HR
  iintro ⟨Hc, HO⟩
  iapply Hk
  isplitl [Hat Hc]
  · isplitl [Hat]; · iexact Hat
    iexact Hc
  iexists W; iexact HO

/-- Waiting for the landing of transfer `p`: the landed chunk, and the semaphore back at zero. -/
theorem recv_step (c : Dev nD) (p : Fin 8) (n s r : ℕ) (hn : n = 0 ∨ (p.val < 4 ∧ n ≤ 4)) (hd : slotD p = s) (hr : row p = r)
    {sR : DmaSem sig} (hR : sR = rSem p) {sh : Shape} {e : EltTy} {sp sp' : Space} {src : Memref sig .tc sp sh e} {dst : Memref sig .tc sp' sh e}
    {h1 h2} (hN : dst.view.dmaCredit = N) {α : Type} {Q : α → sProp 𝕄} {k : PUnit → Prog (TpuEff nD τ sig (Elt F) Λ₀ .tc) α} :
    iprop(recs m ρ K ∗ levAts L lv ∗ toRecv c p ∗ ow c n)
      ⊢ iprop(((pts fullShare c s r (comm m ρ c) ∗ semVal (rCell c p) 0 ∗ ow c n) -∗ run c (k ⟨⟩) Q)
          -∗ run c (.op (.waitDma2 sR src dst h1 h2) k) Q) := by
  subst hd hr hR
  unfold toRecv ow
  iintro ⟨#HR, #Hlev, ⟨Hat, Hc⟩, ⟨%W, HO⟩⟩ Hk
  iapply (Rounds.wp_wait_rest_token 𝒱₀ ER (sched m ρ) (c : Thread nD τ) none (κ := K (c, .inr (.inr p)))
      (wpE_waitDma2_eq 𝒱₀ (c : Thread nD τ) none Set.univ) (Set.mem_univ _) () (O := OS c n) (W := W) (R := 0) (m := 0) (T := ∅)
      (by rw [Nat.zero_add, expect_r, hN])) $$ [Hc HO Hat]
  · isplitr; · iapply (recs_inv m ρ K (c, .inr (.inr p))); iexact HR
    isplitl [Hc]; · rw [hN]; iexact Hc
    isplitl [HO]; · iexact HO
    isplitr; · iapply (mayWait_r c p n hn); iexact Hlev
    iexact Hat
  iintro ⟨HO, Hat, -, Hpay⟩
  ihave Hp := (Entails.of_eq (rest_r m ρ c p)) $$ Hpay
  imod (Rounds.cell_close ER (sched m ρ) (Set.mem_univ (K (c, .inr (.inr p)))) (fun h => h) (R := 0 + 1) (duties_later m ρ (rCell c p))) $$ [Hat] with Hz
  · isplitr; · iapply (recs_inv m ρ K (c, .inr (.inr p))); iexact HR
    iexact Hat
  iapply Hk
  unfold rPay
  isplitl [Hp]; · iexact Hp
  isplitl [Hz]; · iexact Hz
  iexists _; iexact HO

/-- Waiting for the source of transfer `p`, nothing owed any more: the half share back, and the semaphore back at zero. -/
theorem sent_step (c : Dev nD) (p : Fin 8) (s r : ℕ) (hd : slotS p = s) (hr : row p = r)
    {sS : DmaSem sig} (hS : sS = sSem p) {sh : Shape} {e : EltTy} {sp sp' : Space} {src : Memref sig .tc sp sh e} {dst : Memref sig .tc sp' sh e}
    {h1 h2} (hN : dst.view.dmaCredit = N) {α : Type} {Q : α → sProp 𝕄} {k : PUnit → Prog (TpuEff nD τ sig (Elt F) Λ₀ .tc) α} :
    iprop(recs m ρ K ∗ levAts L lv ∗ sent c p ∗ ow c 0)
      ⊢ iprop(((pts fullShare.left c s r (comm m ρ c) ∗ semVal (sCell c p) 0 ∗ ow c 0) -∗ run c (k ⟨⟩) Q)
          -∗ run c (.op (.waitDma2 sS src dst h1 h2) k) Q) := by
  subst hd hr hS
  unfold sent ow
  iintro ⟨#HR, #Hlev, ⟨Hat, Hc⟩, ⟨%W, HO⟩⟩ Hk
  iapply (Rounds.wp_wait_rest_token 𝒱₀ ER (sched m ρ) (c : Thread nD τ) none (κ := K (c, .inr (.inl p)))
      (wpE_waitDma2_eq 𝒱₀ (c : Thread nD τ) none Set.univ) (Set.mem_univ _) () (O := OS c 0) (W := W) (R := 0) (m := 0) (T := ∅)
      (by rw [Nat.zero_add, expect_s, hN])) $$ [Hc HO Hat]
  · isplitr; · iapply (recs_inv m ρ K (c, .inr (.inl p))); iexact HR
    isplitl [Hc]; · rw [hN]; iexact Hc
    isplitl [HO]; · iexact HO
    isplitr; · iapply (mayWait_s c p); iexact Hlev
    iexact Hat
  iintro ⟨HO, Hat, -, Hpay⟩
  ihave Hp := (Entails.of_eq (rest_s m ρ c p)) $$ Hpay
  imod (Rounds.cell_close ER (sched m ρ) (Set.mem_univ (K (c, .inr (.inl p)))) (fun h => h) (R := 0 + 1) (duties_later m ρ (sCell c p))) $$ [Hat] with Hz
  · isplitr; · iapply (recs_inv m ρ K (c, .inr (.inl p))); iexact HR
    iexact Hat
  iapply Hk
  unfold sPay
  isplitl [Hp]; · iexact Hp
  isplitl [Hz]; · iexact Hz
  iexists _; iexact HO

/-- A load of a chunk, at any share. -/
theorem load_step (q : PosShare TreeShare) (c : Dev nD) (s r : ℕ) (f : Buf (Elt F) ((c : Thread nD τ).loc cc0_scratch0)) {h : InC s r} {hl}
    {α : Type} {Q : α → sProp 𝕄} {k : ((cR s r h).toLoadRect.shape.Idx → Elt F .bf16) → Prog (TpuEff nD τ sig (Elt F) Λ₀ .tc) α} :
    (pts q c s r f : sProp 𝕄) ⊢ iprop((pts q c s r f -∗ run c (k (scM.view.readAt (Elt F) (cR s r h).toLoadRect f)) Q)
      -∗ run c (.op (.load scM (cR s r h).toLoadRect hl) k) Q) := by
  unfold pts
  exact wp_load 𝒱₀ (c : Thread nD τ) none Set.univ (m := scM) (by rw [cR_on])

/-- A load of a chunk of the result block. -/
theorem oload_step (c : Dev nD) (r : ℕ) (f : Buf (Elt F) ((c : Thread nD τ).loc cc0_stg1_0)) {h : InO r} {hl}
    {α : Type} {Q : α → sProp 𝕄} {k : ((oR r h).toLoadRect.shape.Idx → Elt F .bf16) → Prog (TpuEff nD τ sig (Elt F) Λ₀ .tc) α} :
    (ots c r f : sProp 𝕄) ⊢ iprop((ots c r f -∗ run c (k (oM.view.readAt (Elt F) (oR r h).toLoadRect f)) Q)
      -∗ run c (.op (.load oM (oR r h).toLoadRect hl) k) Q) := by
  unfold ots
  exact wp_load 𝒱₀ (c : Thread nD τ) none Set.univ (m := oM) (by rw [oR_on])

/-- The store of a chunk's first sum; the chunk then splits in the half share that is sent and the one that is kept. -/
theorem mid_step (c : Dev nD) (r : ℕ) (f : Buf (Elt F) ((c : Thread nD τ).loc cc0_scratch0)) {h0 : InC 0 r} {h1 : InC 1 r} {h2 : InC 2 r}
    {w : Vec F S1x64x256 .bf16} (hw : w = k0_pay2 (scM.view.readAt (Elt F) (cR 0 r h0).toLoadRect (comm m ρ c))
        (scM.view.readAt (Elt F) (cR 1 r h1).toLoadRect (comm m ρ c))) {hx hm}
    {α : Type} {Q : α → sProp 𝕄} {k : PUnit → Prog (TpuEff nD τ sig (Elt F) Λ₀ .tc) α} :
    (pts fullShare c 2 r f : sProp 𝕄)
      ⊢ iprop(((pts fullShare.left c 2 r (comm m ρ c) ∗ pts fullShare.right c 2 r (comm m ρ c)) -∗ run c (k ⟨⟩) Q)
      -∗ run c (.op (.store scM (cR 2 r h2) w Finset.univ hx hm) k) Q) := by
  subst hw
  iintro H Hk
  unfold pts
  iapply (wp_store 𝒱₀ (c : Thread nD τ) none Set.univ (m := scM) (r := cR 2 r h2) (Mk := Finset.univ) (by rw [cA_on])) $$ H
  iintro H
  ihave H := (Entails.of_eq (pointsTo_congr (mid_value m ρ c r h0 h1 h2 f))) $$ H
  iapply Hk
  iapply (pointsTo_share (PosShare.mem_left_op_right fullShare)).1
  iexact H

/-- The store of a chunk of the result. -/
theorem out_step (c : Dev nD) (r : ℕ) (f : Buf (Elt F) ((c : Thread nD τ).loc cc0_stg1_0)) {h2 : InC 2 r} {h3 : InC 3 r} {ho : InO r}
    {w : FVec F S64x256 .bf16} (hw : w = k0_pay6 (scM.view.readAt (Elt F) (cR 2 r h2).toLoadRect (comm m ρ c))
        (scM.view.readAt (Elt F) (cR 3 r h3).toLoadRect (comm m ρ c))) {hx hm}
    {α : Type} {Q : α → sProp 𝕄} {k : PUnit → Prog (TpuEff nD τ sig (Elt F) Λ₀ .tc) α} :
    (ots c r f : sProp 𝕄) ⊢ iprop((ots c r (outAt m ρ c) -∗ run c (k ⟨⟩) Q)
      -∗ run c (.op (.store oM (oR r ho) w Finset.univ hx hm) k) Q) := by
  subst hw
  iintro H Hk
  unfold ots
  iapply (wp_store 𝒱₀ (c : Thread nD τ) none Set.univ (m := oM) (r := oR r ho) (Mk := Finset.univ) (by rw [oA_on])) $$ H
  iintro H
  ihave H := (Entails.of_eq (pointsTo_congr (out_value m ρ c r h2 h3 ho f))) $$ H
  iapply Hk
  iexact H

end Cert.BlockSum

end
-- ==== Proof.Entry.lean ====
/-
The buffers cut in chunks, and the kernel's opening: the two signals, the first store, and the wait on the barrier.
-/
module

public import proofs.«01_k».proof.Proof.Steps

@[expose] public section

noncomputable section

namespace Cert.BlockSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers in chunks -/

omit [FloatOps F] in
/-- A separating conjunction over four indices, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- A separating conjunction over eight indices, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A quarter of the communication buffer is its four chunks. -/
theorem slot_chunks (s : ℕ) : slot s = (Finset.univ : Finset (Fin 4)).biUnion fun i => ck s (64 * i.val) := by
  ext j
  have h1 : (j 1).val < 256 := (j 1).isLt
  simp only [Finset.mem_biUnion, Finset.mem_univ, true_and, mem_slot, mem_ck]
  constructor
  · intro h
    exact ⟨⟨(j 1).val / 64, by omega⟩, h, by show 64 * ((j 1).val / 64) ≤ _; omega, by show _ < 64 * ((j 1).val / 64) + 64; omega⟩
  · rintro ⟨i, h, -⟩
    exact h

/-- The communication buffer is its four quarters. -/
theorem univ_slots : (Finset.univ : Finset S4x256x256.Idx) = (Finset.univ : Finset (Fin 4)).biUnion fun s => slot s.val := by
  ext j
  simp only [Finset.mem_biUnion, Finset.mem_univ, true_and, mem_slot, true_iff]
  exact ⟨⟨(j 0).val, (j 0).isLt⟩, rfl⟩

/-- The result block is its four chunks. -/
theorem univ_out : (Finset.univ : Finset S256x256.Idx) = (Finset.univ : Finset (Fin 4)).biUnion fun i => oc (64 * i.val) := by
  ext j
  have h1 : (j 0).val < 256 := (j 0).isLt
  simp only [Finset.mem_biUnion, Finset.mem_univ, true_and, mem_oc, true_iff]
  exact ⟨⟨(j 0).val / 64, by omega⟩, by show 64 * ((j 0).val / 64) ≤ _; omega, by show _ < 64 * ((j 0).val / 64) + 64; omega⟩

/-- Different chunks of a quarter have no position in common. -/
theorem ck_disjoint (s : ℕ) {i i' : Fin 4} (h : i ≠ i') : Disjoint (ck s (64 * i.val)) (ck s (64 * i'.val)) :=
  Finset.disjoint_left.mpr fun j hj hj' => h (Fin.ext (by have a := (mem_ck.mp hj).2; have b := (mem_ck.mp hj').2; omega))
/-- Different quarters have no position in common. -/
theorem slot_disjoint {s s' : Fin 4} (h : s ≠ s') : Disjoint (slot s.val) (slot s'.val) :=
  Finset.disjoint_left.mpr fun j hj hj' => h (Fin.ext ((mem_slot.mp hj).symm.trans (mem_slot.mp hj')))
/-- Different chunks of the result have no position in common. -/
theorem oc_disjoint {i i' : Fin 4} (h : i ≠ i') : Disjoint (oc (64 * i.val)) (oc (64 * i'.val)) :=
  Finset.disjoint_left.mpr fun j hj hj' => h (Fin.ext (by have a := mem_oc.mp hj; have b := mem_oc.mp hj'; omega))

/-- A share of quarter `s`, in chunks. -/
def quarter (q : PosShare TreeShare) (c : Dev nD) (s : ℕ) (f : Buf (Elt F) ((c : Thread nD τ).loc cc0_scratch0)) : sProp 𝕄 :=
  iprop(pts q c s 0 f ∗ pts q c s 64 f ∗ pts q c s 128 f ∗ pts q c s 192 f)

omit [FloatOps F] in
/-- Holding a quarter is holding its four chunks. -/
theorem quarter_eq (q : PosShare TreeShare) (c : Dev nD) (s : ℕ) (f : Buf (Elt F) ((c : Thread nD τ).loc cc0_scratch0)) :
    ((c : Thread nD τ).loc cc0_scratch0 ↦[slot s]{q} f : sProp 𝕄) = quarter q c s f := by
  have h := pointsTo_biUnion (Ix := Unit) (Name := ℕ) (U := UU) (Lvl := ℕ) (ℓ := (c : Thread nD τ).loc cc0_scratch0) (q := q) (f := f)
    Finset.univ (fun i : Fin 4 => ck s (64 * i.val)) (fun i _ i' _ h => ck_disjoint s h)
  rw [bigSep_fin4] at h
  rw [slot_chunks]
  exact h

omit [FloatOps F] in
/-- Holding the communication buffer is holding its first quarter and the chunks of the other three. -/
theorem scratch_eq (c : Dev nD) (f : Buf (Elt F) ((c : Thread nD τ).loc cc0_scratch0)) :
    (((c : Thread nD τ).loc cc0_scratch0) ↦{fullShare} f : sProp 𝕄)
      = iprop(((c : Thread nD τ).loc cc0_scratch0 ↦[slot 0]{fullShare} f) ∗ quarter fullShare c 1 f ∗ quarter fullShare c 2 f ∗ quarter fullShare c 3 f) := by
  have h := pointsTo_biUnion (Ix := Unit) (Name := ℕ) (U := UU) (Lvl := ℕ) (ℓ := (c : Thread nD τ).loc cc0_scratch0) (q := fullShare) (f := f)
    Finset.univ (fun i : Fin 4 => slot i.val) (fun i _ i' _ h => slot_disjoint h)
  rw [bigSep_fin4, ← univ_slots] at h
  rw [← quarter_eq, ← quarter_eq, ← quarter_eq]
  exact h

/-- The result block, in chunks. -/
def outs (c : Dev nD) (f : Buf (Elt F) ((c : Thread nD τ).loc cc0_stg1_0)) : sProp 𝕄 :=
  iprop(ots c 0 f ∗ ots c 64 f ∗ ots c 128 f ∗ ots c 192 f)

omit [FloatOps F] in
/-- Holding the result's buffer is holding its four chunks. -/
theorem outs_eq (c : Dev nD) (f : Buf (Elt F) ((c : Thread nD τ).loc cc0_stg1_0)) :
    (((c : Thread nD τ).loc cc0_stg1_0) ↦{fullShare} f : sProp 𝕄) = outs c f := by
  have h := pointsTo_biUnion (Ix := Unit) (Name := ℕ) (U := UU) (Lvl := ℕ) (ℓ := (c : Thread nD τ).loc cc0_stg1_0) (q := fullShare) (f := f)
    Finset.univ (fun i : Fin 4 => oc (64 * i.val)) (fun i _ i' _ h => oc_disjoint h)
  rw [bigSep_fin4, ← univ_out] at h
  exact h

omit [FloatOps F] in
/-- A quarter's share splits in two halves. -/
theorem quarter_split (c : Dev nD) (s : ℕ) (f : Buf (Elt F) ((c : Thread nD τ).loc cc0_scratch0)) :
    (quarter fullShare c s f : sProp 𝕄) ⊣⊢ iprop(quarter fullShare.left c s f ∗ quarter fullShare.right c s f) := by
  rw [← quarter_eq, ← quarter_eq, ← quarter_eq]
  exact pointsTo_share (PosShare.mem_left_op_right fullShare)

/-! ## The opening -/

variable (K : Dev nD × Kx → ℕ)

/-- Device `c`'s block, held whole. -/
def xpt (c : Dev nD) : sProp 𝕄 := ((c : Thread nD τ).loc cc0_stg0_0) ↦{fullShare} xstg m ρ c

omit [FloatOps F] in
/-- The places a device gives to its neighbour along the first axis, -/
theorem give_X (c : Dev nD) (f : Buf (Elt F) ((c : Thread nD τ).loc cc0_scratch0)) :
    iprop(pts fullShare c 1 0 f ∗ pts fullShare c 1 64 f ∗ pts fullShare c 3 128 f ∗ pts fullShare c 3 192 f) ⊢ (barX (nb true c) : sProp 𝕄) := by
  have e : ∀ p, dir p = true → peer (nb true c) p = c := fun p h => by unfold peer; rw [h, nb_nb]
  unfold barX land
  rw [e 0 rfl, e 2 rfl, e 5 rfl, e 7 rfl]
  iintro ⟨H1, H2, H3, H4⟩
  isplitl [H1]; · iexists f; iexact H1
  isplitl [H2]; · iexists f; iexact H2
  isplitl [H3]; · iexists f; iexact H3
  iexists f; iexact H4
omit [FloatOps F] in
/-- and along the second. -/
theorem give_Y (c : Dev nD) (f : Buf (Elt F) ((c : Thread nD τ).loc cc0_scratch0)) :
    iprop(pts fullShare c 1 128 f ∗ pts fullShare c 1 192 f ∗ pts fullShare c 3 0 f ∗ pts fullShare c 3 64 f) ⊢ (barY (nb false c) : sProp 𝕄) := by
  have e : ∀ p, dir p = false → peer (nb false c) p = c := fun p h => by unfold peer; rw [h, nb_nb]
  unfold barY land
  rw [e 1 rfl, e 3 rfl, e 4 rfl, e 6 rfl]
  iintro ⟨H1, H2, H3, H4⟩
  isplitl [H1]; · iexists f; iexact H1
  isplitl [H2]; · iexists f; iexact H2
  isplitl [H3]; · iexists f; iexact H3
  iexists f; iexact H4

/-- What the opening ends with. -/
def opened (c : Dev nD) : sProp 𝕄 :=
  iprop(xpt m ρ c ∗ ow c 8 ∗ semVal (barCell c) 0 ∗ barX c ∗ barY c
    ∗ quarter fullShare.left c 0 (comm m ρ c) ∗ quarter fullShare.right c 0 (comm m ρ c) ∗ ∃ f, quarter fullShare c 2 f)

set_option maxHeartbeats 800000 in
/-- The opening: both neighbours are signalled and given the places they fill, the block is stored in the first quarter,
    and the barrier wait gives the places this device fills. -/
theorem part1 (c : Dev nD) {Q : _ → sProp 𝕄} :
    iprop(recs m ρ K ∗ levAts L lv ∗ toBar c ∗ cred (tallyAt (barCell c) () 2) ∗ (∃ W, owes (c : Thread nD τ) (O₀ c) W) ∗ xpt m ρ c
        ∗ (∃ f, ((c : Thread nD τ).loc cc0_scratch0) ↦{fullShare} f))
      ⊢ iprop((∀ r, ⌜r.1 = c⌝ -∗ opened m ρ c -∗ Q r)
        -∗ run c (k0_part1 (F := F) xM (Memref.isWhole_whole _) oM (Memref.isWhole_whole _) scM (Memref.isWhole_whole _) cc0_scratch1 cc0_scratch2) Q) := by
  unfold run
  simp only [k0_part1_eq_skeleton]; unfold k0_part1_skel
  simp only [semSignalWord, semWaitWord, Prog.lift, Prog.bind_op, Prog.bind_ret, Prog.pure_eq_ret, wp_deviceId]
  simp only [dev1_eq c, dev2_eq c]
  unfold toBar xpt
  iintro ⟨#HR, #Hlev, ⟨Hat, HtX, HtY⟩, HcB, ⟨%W, HO⟩, Hx, ⟨%f, Hscr⟩⟩ Hk
  ihave Hq := (Entails.of_eq (scratch_eq c f)) $$ Hscr
  unfold quarter
  icases Hq with ⟨H0, ⟨H10, H11, H12, H13⟩, H2, ⟨H30, H31, H32, H33⟩⟩
  ihave HX := (give_X (F := F) c f) $$ [H10 H11 H32 H33]
  · iframe
  ihave HY := (give_Y (F := F) c f) $$ [H12 H13 H30 H31]
  · iframe
  unfold O₀
  iapply (Rounds.wp_signal 𝒱₀ ER (sched m ρ) (c : Thread nD τ) none (dst := (nb true c : Thread nD τ)) (κ := K (nb true c, .inl ()))
      (d := true) (by rw [duties_bar]; exact Finset.mem_univ _) ((amount_bar m ρ (nb true c) true).trans (by decide)) () (O₁ c) rfl)
    $$ [HO HtX HX]
  · isplitr; · iapply (recs_inv m ρ K (nb true c, .inl ())); iexact HR
    isplitl [HO]; · iexact HO
    isplitl [HtX]; · iexact HtX
    isplitl [HX]; · rw [payload_bar_true]; iexact HX
    iapply (recs_reached m ρ K (nb true c, .inl ())); iexact HR
  iintro HO
  unfold O₁
  iapply (Rounds.wp_signal 𝒱₀ ER (sched m ρ) (c : Thread nD τ) none (dst := (nb false c : Thread nD τ)) (κ := K (nb false c, .inl ()))
      (d := false) (by rw [duties_bar]; exact Finset.mem_univ _) ((amount_bar m ρ (nb false c) false).trans (by decide)) () (OS c 8) rfl)
    $$ [HO HtY HY]
  · isplitr; · iapply (recs_inv m ρ K (nb false c, .inl ())); iexact HR
    isplitl [HO]; · iexact HO
    isplitl [HtY]; · iexact HtY
    isplitl [HY]; · rw [payload_bar_false]; iexact HY
    iapply (recs_reached m ρ K (nb false c, .inl ())); iexact HR
  iintro HO
  iapply (wp_load 𝒱₀ (c : Thread nD τ) none Set.univ (m := xM) (Finset.subset_univ _)) $$ Hx; iintro Hx
  iapply (wp_load 𝒱₀ (c : Thread nD τ) none Set.univ (m := scM) (by rw [R0_on])) $$ H0; iintro H0
  iapply (wp_store 𝒱₀ (c : Thread nD τ) none Set.univ (m := scM) (r := R0) (Mk := Finset.univ) (by rw [R0_acc])) $$ H0; iintro H0
  ihave H0 := (Entails.of_eq (pointsTo_congr (first_value m ρ c f))) $$ H0
  ihave H0 := (Entails.of_eq (quarter_eq fullShare c 0 (comm m ρ c))) $$ H0
  ihave H0 := (quarter_split (F := F) c 0 (comm m ρ c)).1 $$ H0
  icases H0 with ⟨H0l, H0r⟩
  iapply (Rounds.wp_wait_rest_token 𝒱₀ ER (sched m ρ) (c : Thread nD τ) none (κ := K (c, .inl ()))
      (wpE_semWait_eq 𝒱₀ (c : Thread nD τ) none Set.univ) (Set.mem_univ _) () (O := OS c 8) (W := W) (R := 0) (m := 0) (T := ∅)
      (by rw [expect_bar]; decide)) $$ [HcB HO Hat]
  · isplitr; · iapply (recs_inv m ρ K (c, .inl ())); iexact HR
    isplitl [HcB]; · iexact HcB
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨HbX, HbY⟩
  imod (Rounds.cell_close ER (sched m ρ) (Set.mem_univ (K (c, .inl ()))) (fun h => h) (R := 0 + 1) (duties_later m ρ (barCell c))) $$ [Hat] with Hz
  · isplitr; · iapply (recs_inv m ρ K (c, .inl ())); iexact HR
    iexact Hat
  rw [wp_ret]; imodintro
  iapply Hk
  · ipureintro; rfl
  unfold opened xpt ow
  isplitl [Hx]; · iexact Hx
  isplitl [HO]; · iexists _; iexact HO
  isplitl [Hz]; · iexact Hz
  isplitl [HbX]; · iexact HbX
  isplitl [HbY]; · iexact HbY
  isplitl [H0l]; · iexact H0l
  isplitl [H0r]; · iexact H0r
  iexists f; unfold quarter; iexact H2

end Cert.BlockSum

end
-- ==== Proof.Parts.lean ====
/-
The kernel's parts after the opening, each run from the pieces it uses.
-/
module

public import proofs.«01_k».proof.Proof.Entry

@[expose] public section

noncomputable section

namespace Cert.BlockSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kx → ℕ)

/-- What a load of a chunk of the finished communication buffer reads. -/
abbrev rd (c : Dev nD) (s r : ℕ) (h : InC s r) : Vec F S1x64x256 .bf16 := scM.view.readAt (Elt F) (cR s r h).toLoadRect (comm m ρ c)

set_option maxHeartbeats 800000 in
/-- The first two transfers. -/
theorem part2 (c : Dev nD) (v2 v5 v6 v7 v23 v24 : BitVec 32) {Q : PUnit → sProp 𝕄} :
    iprop(recs m ρ K ∗ levAts L lv ∗ toSend c 0 ∗ toSend c 1 ∗ pts fullShare.left c 0 0 (comm m ρ c) ∗ pts fullShare.left c 0 128 (comm m ρ c) ∗ land c 0 ∗ land c 1 ∗ ow c 8)
      ⊢ iprop(((sent c 0 ∗ sent c 1 ∗ ow c 6) -∗ Q ⟨⟩)
        -∗ run c (k0_part2 (F := F) xM (Memref.isWhole_whole _) oM (Memref.isWhole_whole _) scM (Memref.isWhole_whole _) cc0_scratch1 cc0_scratch2 c v2 v5 v6 v7 v23 v24) Q) := by
  unfold run
  simp only [k0_part2_eq_skeleton]; unfold k0_part2_skel
  simp only [Prog.lift, Prog.bind_op, Prog.bind_ret, Prog.pure_eq_ret]
  iintro ⟨#HR, #Hlev, T0, T1, S0, S1, L0, L1, HO⟩ Hk
  iapply (send_step m ρ K c _ 0 7 0 1 0 (dev3_eq c) rfl rfl rfl rfl rfl rfl) $$ [T0 S0 L0 HO]
  · isplitr; · iexact HR
    iframe
  iintro ⟨T0, HO⟩
  iapply (send_step m ρ K c _ 1 6 0 1 128 (dev4_eq c) rfl rfl rfl rfl rfl rfl) $$ [T1 S1 L1 HO]
  · isplitr; · iexact HR
    iframe
  iintro ⟨T1, HO⟩
  unfold run; rw [wp_ret]; imodintro
  iapply Hk
  iframe

set_option maxHeartbeats 800000 in
/-- The third and fourth transfers; the first landing; and a load of its own chunk there. -/
theorem part3 (c : Dev nD) (v2 v5 v6 v7 : BitVec 32) {Q : Vec F S1x64x256 .bf16 → sProp 𝕄} :
    iprop(recs m ρ K ∗ levAts L lv ∗ toSend c 2 ∗ toSend c 3 ∗ pts fullShare.left c 0 64 (comm m ρ c) ∗ pts fullShare.left c 0 192 (comm m ρ c) ∗ land c 2 ∗ land c 3 ∗ toRecv c 0 ∗ pts fullShare.right c 0 0 (comm m ρ c) ∗ ow c 6)
      ⊢ iprop(((sent c 2 ∗ sent c 3 ∗ pts fullShare c 1 0 (comm m ρ c) ∗ semVal (rCell c 0) 0 ∗ pts fullShare.right c 0 0 (comm m ρ c) ∗ ow c 4) -∗ Q (rd m ρ c 0 0 inb_S4x256x256_S1x64x256_0_0_0))
        -∗ run c (k0_part3 (F := F) xM (Memref.isWhole_whole _) oM (Memref.isWhole_whole _) scM (Memref.isWhole_whole _) cc0_scratch1 cc0_scratch2 c v2 v5 v6 v7) Q) := by
  unfold run
  simp only [k0_part3_eq_skeleton]; unfold k0_part3_skel
  simp only [Prog.lift, Prog.bind_op, Prog.bind_ret, Prog.pure_eq_ret]
  iintro ⟨#HR, #Hlev, T2, T3, S2, S3, L2, L3, V0, R0, HO⟩ Hk
  iapply (send_step m ρ K c _ 2 5 0 1 64 (dev5_eq c) rfl rfl rfl rfl rfl rfl) $$ [T2 S2 L2 HO]
  · isplitr; · iexact HR
    iframe
  iintro ⟨T2, HO⟩
  iapply (send_step m ρ K c _ 3 4 0 1 192 (dev6_eq c) rfl rfl rfl rfl rfl rfl) $$ [T3 S3 L3 HO]
  · isplitr; · iexact HR
    iframe
  iintro ⟨T3, HO⟩
  iapply (recv_step m ρ K c 0 4 1 0 (.inr ⟨by decide, by decide⟩) rfl rfl rfl (N_eq 1 0 inb_S4x256x256_S1x64x256_1_0_0)) $$ [V0 HO]
  · isplitr; · iexact HR
    isplitr; · iexact Hlev
    iframe
  iintro ⟨D0, Z0, HO⟩
  iapply (load_step _ c 0 0 (comm m ρ c)) $$ R0; iintro R0
  unfold run; rw [wp_ret]; imodintro
  iapply Hk
  iframe

set_option maxHeartbeats 800000 in
/-- The first sum of the first chunk, and its transfer. -/
theorem part4 (c : Dev nD) (v2 v7 : BitVec 32) (f : Buf (Elt F) ((c : Thread nD τ).loc cc0_scratch0)) {Q : PUnit → sProp 𝕄} :
    iprop(recs m ρ K ∗ levAts L lv ∗ pts fullShare c 1 0 (comm m ρ c) ∗ pts fullShare c 2 0 f ∗ toSend c 4 ∗ land c 4 ∗ ow c 4)
      ⊢ iprop(((pts fullShare c 1 0 (comm m ρ c) ∗ pts fullShare.right c 2 0 (comm m ρ c) ∗ sent c 4 ∗ ow c 3) -∗ Q ⟨⟩)
        -∗ run c (k0_part4 (F := F) xM (Memref.isWhole_whole _) oM (Memref.isWhole_whole _) scM (Memref.isWhole_whole _) cc0_scratch1 cc0_scratch2 c v2 v7 (rd m ρ c 0 0 inb_S4x256x256_S1x64x256_0_0_0)) Q) := by
  unfold run
  simp only [k0_part4_eq_skeleton]; unfold k0_part4_skel
  simp only [Prog.lift, Prog.bind_op, Prog.bind_ret, Prog.pure_eq_ret]
  iintro ⟨#HR, #Hlev, D0, M0, T4, L4, HO⟩ Hk
  iapply (load_step _ c 1 0 (comm m ρ c)) $$ D0; iintro D0
  iapply (load_step _ c 2 0 _) $$ M0; iintro M0
  iapply (mid_step m ρ c 0 _ (h0 := inb_S4x256x256_S1x64x256_0_0_0) (h1 := inb_S4x256x256_S1x64x256_1_0_0) rfl) $$ M0
  iintro ⟨S4, M0⟩
  iapply (send_step m ρ K c _ 4 3 2 3 0 (dev7_eq c) rfl rfl rfl rfl rfl rfl) $$ [T4 S4 L4 HO]
  · isplitr; · iexact HR
    iframe
  iintro ⟨T4, HO⟩
  unfold run; rw [wp_ret]; imodintro
  iapply Hk
  iframe

set_option maxHeartbeats 800000 in
/-- The landing, first sum and second transfer of the chunk at row 128. -/
theorem part5 (c : Dev nD) (v5 v6 : BitVec 32) (f : Buf (Elt F) ((c : Thread nD τ).loc cc0_scratch0)) {Q : _ → sProp 𝕄} :
    iprop(recs m ρ K ∗ levAts L lv ∗ toRecv c 1 ∗ pts fullShare.right c 0 128 (comm m ρ c) ∗ pts fullShare c 2 128 f ∗ toSend c 5 ∗ land c 5 ∗ ow c 3)
      ⊢ iprop((∀ w, (pts fullShare c 1 128 (comm m ρ c) ∗ semVal (rCell c 1) 0 ∗ pts fullShare.right c 0 128 (comm m ρ c) ∗ pts fullShare.right c 2 128 (comm m ρ c) ∗ sent c 5 ∗ ow c 2) -∗ Q w)
        -∗ run c (k0_part5 (F := F) xM (Memref.isWhole_whole _) oM (Memref.isWhole_whole _) scM (Memref.isWhole_whole _) cc0_scratch1 cc0_scratch2 c v5 v6) Q) := by
  unfold run
  simp only [k0_part5_eq_skeleton]; unfold k0_part5_skel
  simp only [Prog.lift, Prog.bind_op, Prog.bind_ret, Prog.pure_eq_ret]
  iintro ⟨#HR, #Hlev, V1, R128, M128, T5, L5, HO⟩ Hk
  iapply (recv_step m ρ K c 1 3 1 128 (.inr ⟨by decide, by decide⟩) rfl rfl rfl (N_eq 1 128 inb_S4x256x256_S1x64x256_1_128_0)) $$ [V1 HO]
  · isplitr; · iexact HR
    isplitr; · iexact Hlev
    iframe
  iintro ⟨D1, Z1, HO⟩
  iapply (load_step _ c 0 128 (comm m ρ c)) $$ R128; iintro R128
  iapply (load_step _ c 1 128 (comm m ρ c)) $$ D1; iintro D1
  iapply (load_step _ c 2 128 _) $$ M128; iintro M128
  iapply (mid_step m ρ c 128 _ (h0 := inb_S4x256x256_S1x64x256_0_128_0) (h1 := inb_S4x256x256_S1x64x256_1_128_0) rfl) $$ M128
  iintro ⟨S5, M128⟩
  iapply (send_step m ρ K c _ 5 2 2 3 128 (dev8_eq c) rfl rfl rfl rfl rfl rfl) $$ [T5 S5 L5 HO]
  · isplitr; · iexact HR
    iframe
  iintro ⟨T5, HO⟩
  unfold run; rw [wp_ret]; imodintro
  iapply Hk $$ %_
  iframe

set_option maxHeartbeats 800000 in
/-- The same at row 64. -/
theorem part6 (c : Dev nD) (v2 v7 v131 v132 : BitVec 32) (f : Buf (Elt F) ((c : Thread nD τ).loc cc0_scratch0)) {Q : PUnit → sProp 𝕄} :
    iprop(recs m ρ K ∗ levAts L lv ∗ toRecv c 2 ∗ pts fullShare.right c 0 64 (comm m ρ c) ∗ pts fullShare c 2 64 f ∗ toSend c 6 ∗ land c 6 ∗ ow c 2)
      ⊢ iprop(((pts fullShare c 1 64 (comm m ρ c) ∗ semVal (rCell c 2) 0 ∗ pts fullShare.right c 0 64 (comm m ρ c) ∗ pts fullShare.right c 2 64 (comm m ρ c) ∗ sent c 6 ∗ ow c 1) -∗ Q ⟨⟩)
        -∗ run c (k0_part6 (F := F) xM (Memref.isWhole_whole _) oM (Memref.isWhole_whole _) scM (Memref.isWhole_whole _) cc0_scratch1 cc0_scratch2 c v2 v7 v131 v132) Q) := by
  unfold run
  simp only [k0_part6_eq_skeleton]; unfold k0_part6_skel
  simp only [Prog.lift, Prog.bind_op, Prog.bind_ret, Prog.pure_eq_ret]
  iintro ⟨#HR, #Hlev, V2, R64, M64, T6, L6, HO⟩ Hk
  iapply (recv_step m ρ K c 2 2 1 64 (.inr ⟨by decide, by decide⟩) rfl rfl rfl (N_eq 1 64 inb_S4x256x256_S1x64x256_1_64_0)) $$ [V2 HO]
  · isplitr; · iexact HR
    isplitr; · iexact Hlev
    iframe
  iintro ⟨D2, Z2, HO⟩
  iapply (load_step _ c 0 64 (comm m ρ c)) $$ R64; iintro R64
  iapply (load_step _ c 1 64 (comm m ρ c)) $$ D2; iintro D2
  iapply (load_step _ c 2 64 _) $$ M64; iintro M64
  iapply (mid_step m ρ c 64 _ (h0 := inb_S4x256x256_S1x64x256_0_64_0) (h1 := inb_S4x256x256_S1x64x256_1_64_0) rfl) $$ M64
  iintro ⟨S6, M64⟩
  iapply (send_step m ρ K c _ 6 1 2 3 64 (dev9_eq c) rfl rfl rfl rfl rfl rfl) $$ [T6 S6 L6 HO]
  · isplitr; · iexact HR
    iframe
  iintro ⟨T6, HO⟩
  unfold run; rw [wp_ret]; imodintro
  iapply Hk
  iframe

set_option maxHeartbeats 800000 in
/-- The landing and first sum of the chunk at row 192. -/
theorem part7 (c : Dev nD) (v2 v5 v6 v7 : BitVec 32) (f : Buf (Elt F) ((c : Thread nD τ).loc cc0_scratch0)) {Q : PUnit → sProp 𝕄} :
    iprop(recs m ρ K ∗ levAts L lv ∗ toRecv c 3 ∗ pts fullShare.right c 0 192 (comm m ρ c) ∗ pts fullShare c 2 192 f ∗ ow c 1)
      ⊢ iprop(((pts fullShare c 1 192 (comm m ρ c) ∗ semVal (rCell c 3) 0 ∗ pts fullShare.right c 0 192 (comm m ρ c) ∗ pts fullShare.left c 2 192 (comm m ρ c) ∗ pts fullShare.right c 2 192 (comm m ρ c) ∗ ow c 1) -∗ Q ⟨⟩)
        -∗ run c (k0_part7 (F := F) xM (Memref.isWhole_whole _) oM (Memref.isWhole_whole _) scM (Memref.isWhole_whole _) cc0_scratch1 cc0_scratch2 v2 v5 v6 v7) Q) := by
  unfold run
  simp only [k0_part7_eq_skeleton]; unfold k0_part7_skel
  simp only [Prog.lift, Prog.bind_op, Prog.bind_ret, Prog.pure_eq_ret]
  iintro ⟨#HR, #Hlev, V3, R192, M192, HO⟩ Hk
  iapply (recv_step m ρ K c 3 1 1 192 (.inr ⟨by decide, by decide⟩) rfl rfl rfl (N_eq 1 192 inb_S4x256x256_S1x64x256_1_192_0)) $$ [V3 HO]
  · isplitr; · iexact HR
    isplitr; · iexact Hlev
    iframe
  iintro ⟨D3, Z3, HO⟩
  iapply (load_step _ c 0 192 (comm m ρ c)) $$ R192; iintro R192
  iapply (load_step _ c 1 192 (comm m ρ c)) $$ D3; iintro D3
  iapply (load_step _ c 2 192 _) $$ M192; iintro M192
  iapply (mid_step m ρ c 192 _ (h0 := inb_S4x256x256_S1x64x256_0_192_0) (h1 := inb_S4x256x256_S1x64x256_1_192_0) rfl) $$ M192
  iintro ⟨S7, M192⟩
  unfold run; rw [wp_ret]; imodintro
  iapply Hk
  iframe

set_option maxHeartbeats 800000 in
/-- The last transfer; the landing of the first chunk's second exchange, and its result. -/
theorem part8 (c : Dev nD) (v2 v5 v6 v7 : BitVec 32) (g : Buf (Elt F) ((c : Thread nD τ).loc cc0_stg1_0)) {Q : PUnit → sProp 𝕄} :
    iprop(recs m ρ K ∗ levAts L lv ∗ toSend c 7 ∗ pts fullShare.left c 2 192 (comm m ρ c) ∗ land c 7 ∗ toRecv c 4 ∗ pts fullShare.right c 2 0 (comm m ρ c) ∗ ots c 0 g ∗ ow c 1)
      ⊢ iprop(((sent c 7 ∗ pts fullShare c 3 0 (comm m ρ c) ∗ semVal (rCell c 4) 0 ∗ pts fullShare.right c 2 0 (comm m ρ c) ∗ ots c 0 (outAt m ρ c) ∗ ow c 0) -∗ Q ⟨⟩)
        -∗ run c (k0_part8 (F := F) xM (Memref.isWhole_whole _) oM (Memref.isWhole_whole _) scM (Memref.isWhole_whole _) cc0_scratch1 cc0_scratch2 c v2 v5 v6 v7) Q) := by
  unfold run
  simp only [k0_part8_eq_skeleton]; unfold k0_part8_skel
  simp only [Prog.lift, Prog.bind_op, Prog.bind_ret, Prog.pure_eq_ret]
  iintro ⟨#HR, #Hlev, T7, S7, L7, V4, M0, U0, HO⟩ Hk
  iapply (send_step m ρ K c _ 7 0 2 3 192 (dev10_eq c) rfl rfl rfl rfl rfl rfl) $$ [T7 S7 L7 HO]
  · isplitr; · iexact HR
    iframe
  iintro ⟨T7, HO⟩
  iapply (recv_step m ρ K c 4 0 3 0 (.inl rfl) rfl rfl rfl (N_eq 3 0 inb_S4x256x256_S1x64x256_3_0_0)) $$ [V4 HO]
  · isplitr; · iexact HR
    isplitr; · iexact Hlev
    iframe
  iintro ⟨D4, Z4, HO⟩
  iapply (load_step _ c 2 0 (comm m ρ c)) $$ M0; iintro M0
  iapply (load_step _ c 3 0 (comm m ρ c)) $$ D4; iintro D4
  iapply (oload_step c 0 _) $$ U0; iintro U0
  iapply (out_step m ρ c 0 _ (h2 := inb_S4x256x256_S1x64x256_2_0_0) (h3 := inb_S4x256x256_S1x64x256_3_0_0) rfl) $$ U0
  iintro U0
  unfold run; rw [wp_ret]; imodintro
  iapply Hk
  iframe

set_option maxHeartbeats 800000 in
/-- The landing and result at row 128; the landing at row 64. -/
theorem part9 (c : Dev nD) (v2 v7 : BitVec 32) (g : Buf (Elt F) ((c : Thread nD τ).loc cc0_stg1_0)) {Q : FVec F S64x256 .bf16 → sProp 𝕄} :
    iprop(recs m ρ K ∗ levAts L lv ∗ toRecv c 5 ∗ pts fullShare.right c 2 128 (comm m ρ c) ∗ ots c 128 g ∗ toRecv c 6 ∗ pts fullShare.right c 2 64 (comm m ρ c) ∗ ots c 64 g ∗ ow c 0)
      ⊢ iprop(((pts fullShare c 3 128 (comm m ρ c) ∗ semVal (rCell c 5) 0 ∗ pts fullShare.right c 2 128 (comm m ρ c) ∗ ots c 128 (outAt m ρ c) ∗ pts fullShare c 3 64 (comm m ρ c) ∗ semVal (rCell c 6) 0 ∗ pts fullShare.right c 2 64 (comm m ρ c) ∗ ots c 64 g ∗ ow c 0) -∗ Q (k0_pay8 (rd m ρ c 2 64 inb_S4x256x256_S1x64x256_2_64_0) (rd m ρ c 3 64 inb_S4x256x256_S1x64x256_3_64_0)))
        -∗ run c (k0_part9 (F := F) xM (Memref.isWhole_whole _) oM (Memref.isWhole_whole _) scM (Memref.isWhole_whole _) cc0_scratch1 cc0_scratch2 v2 v7) Q) := by
  unfold run
  simp only [k0_part9_eq_skeleton]; unfold k0_part9_skel
  simp only [Prog.lift, Prog.bind_op, Prog.bind_ret, Prog.pure_eq_ret]
  iintro ⟨#HR, #Hlev, V5, M128, U128, V6, M64, U64, HO⟩ Hk
  iapply (recv_step m ρ K c 5 0 3 128 (.inl rfl) rfl rfl rfl (N_eq 3 128 inb_S4x256x256_S1x64x256_3_128_0)) $$ [V5 HO]
  · isplitr; · iexact HR
    isplitr; · iexact Hlev
    iframe
  iintro ⟨D5, Z5, HO⟩
  iapply (load_step _ c 2 128 (comm m ρ c)) $$ M128; iintro M128
  iapply (load_step _ c 3 128 (comm m ρ c)) $$ D5; iintro D5
  iapply (oload_step c 128 _) $$ U128; iintro U128
  iapply (out_step m ρ c 128 _ (h2 := inb_S4x256x256_S1x64x256_2_128_0) (h3 := inb_S4x256x256_S1x64x256_3_128_0) rfl) $$ U128
  iintro U128
  iapply (recv_step m ρ K c 6 0 3 64 (.inl rfl) rfl rfl rfl (N_eq 3 64 inb_S4x256x256_S1x64x256_3_64_0)) $$ [V6 HO]
  · isplitr; · iexact HR
    isplitr; · iexact Hlev
    iframe
  iintro ⟨D6, Z6, HO⟩
  iapply (load_step _ c 2 64 (comm m ρ c)) $$ M64; iintro M64
  iapply (load_step _ c 3 64 (comm m ρ c)) $$ D6; iintro D6
  iapply (oload_step c 64 _) $$ U64; iintro U64
  unfold run; rw [wp_ret]; imodintro
  iapply Hk
  iframe

set_option maxHeartbeats 800000 in
/-- The result at row 64; the landing and result at row 192; the first source back. -/
theorem part10 (c : Dev nD) (v5 v6 : BitVec 32) (g : Buf (Elt F) ((c : Thread nD τ).loc cc0_stg1_0)) {Q : PUnit → sProp 𝕄} :
    iprop(recs m ρ K ∗ levAts L lv ∗ ots c 64 g ∗ toRecv c 7 ∗ pts fullShare.right c 2 192 (comm m ρ c) ∗ ots c 192 g ∗ sent c 0 ∗ ow c 0)
      ⊢ iprop(((ots c 64 (outAt m ρ c) ∗ pts fullShare c 3 192 (comm m ρ c) ∗ semVal (rCell c 7) 0 ∗ pts fullShare.right c 2 192 (comm m ρ c) ∗ ots c 192 (outAt m ρ c) ∗ pts fullShare.left c 0 0 (comm m ρ c) ∗ semVal (sCell c 0) 0 ∗ ow c 0) -∗ Q ⟨⟩)
        -∗ run c (k0_part10 (F := F) xM (Memref.isWhole_whole _) oM (Memref.isWhole_whole _) scM (Memref.isWhole_whole _) cc0_scratch1 cc0_scratch2 v5 v6 (k0_pay8 (rd m ρ c 2 64 inb_S4x256x256_S1x64x256_2_64_0) (rd m ρ c 3 64 inb_S4x256x256_S1x64x256_3_64_0))) Q) := by
  unfold run
  simp only [k0_part10_eq_skeleton]; unfold k0_part10_skel
  simp only [Prog.lift, Prog.bind_op, Prog.bind_ret, Prog.pure_eq_ret]
  iintro ⟨#HR, #Hlev, U64, V7, M192, U192, T0, HO⟩ Hk
  iapply (out_step m ρ c 64 _ (h2 := inb_S4x256x256_S1x64x256_2_64_0) (h3 := inb_S4x256x256_S1x64x256_3_64_0) rfl) $$ U64
  iintro U64
  iapply (recv_step m ρ K c 7 0 3 192 (.inl rfl) rfl rfl rfl (N_eq 3 192 inb_S4x256x256_S1x64x256_3_192_0)) $$ [V7 HO]
  · isplitr; · iexact HR
    isplitr; · iexact Hlev
    iframe
  iintro ⟨D7, Z7, HO⟩
  iapply (load_step _ c 2 192 (comm m ρ c)) $$ M192; iintro M192
  iapply (load_step _ c 3 192 (comm m ρ c)) $$ D7; iintro D7
  iapply (oload_step c 192 _) $$ U192; iintro U192
  iapply (out_step m ρ c 192 _ (h2 := inb_S4x256x256_S1x64x256_2_192_0) (h3 := inb_S4x256x256_S1x64x256_3_192_0) rfl) $$ U192
  iintro U192
  iapply (sent_step m ρ K c 0 0 0 rfl rfl rfl (N_eq 0 0 inb_S4x256x256_S1x64x256_0_0_0)) $$ [T0 HO]
  · isplitr; · iexact HR
    isplitr; · iexact Hlev
    iframe
  iintro ⟨S0, Y0, HO⟩
  unfold run; rw [wp_ret]; imodintro
  iapply Hk
  iframe

set_option maxHeartbeats 800000 in
/-- The other three sources of the first exchange back. -/
theorem part11 (c : Dev nD) {Q : PUnit → sProp 𝕄} :
    iprop(recs m ρ K ∗ levAts L lv ∗ sent c 1 ∗ sent c 2 ∗ sent c 3 ∗ ow c 0)
      ⊢ iprop(((pts fullShare.left c 0 128 (comm m ρ c) ∗ semVal (sCell c 1) 0 ∗ pts fullShare.left c 0 64 (comm m ρ c) ∗ semVal (sCell c 2) 0 ∗ pts fullShare.left c 0 192 (comm m ρ c) ∗ semVal (sCell c 3) 0 ∗ ow c 0) -∗ Q ⟨⟩)
        -∗ run c (k0_part11 (F := F) xM (Memref.isWhole_whole _) oM (Memref.isWhole_whole _) scM (Memref.isWhole_whole _) cc0_scratch1 cc0_scratch2 ) Q) := by
  unfold run
  simp only [k0_part11_eq_skeleton]; unfold k0_part11_skel
  simp only [Prog.lift, Prog.bind_op, Prog.bind_ret, Prog.pure_eq_ret]
  iintro ⟨#HR, #Hlev, T1, T2, T3, HO⟩ Hk
  iapply (sent_step m ρ K c 1 0 128 rfl rfl rfl (N_eq 0 128 inb_S4x256x256_S1x64x256_0_128_0)) $$ [T1 HO]
  · isplitr; · iexact HR
    isplitr; · iexact Hlev
    iframe
  iintro ⟨S1, Y1, HO⟩
  iapply (sent_step m ρ K c 2 0 64 rfl rfl rfl (N_eq 0 64 inb_S4x256x256_S1x64x256_0_64_0)) $$ [T2 HO]
  · isplitr; · iexact HR
    isplitr; · iexact Hlev
    iframe
  iintro ⟨S2, Y2, HO⟩
  iapply (sent_step m ρ K c 3 0 192 rfl rfl rfl (N_eq 0 192 inb_S4x256x256_S1x64x256_0_192_0)) $$ [T3 HO]
  · isplitr; · iexact HR
    isplitr; · iexact Hlev
    iframe
  iintro ⟨S3, Y3, HO⟩
  unfold run; rw [wp_ret]; imodintro
  iapply Hk
  iframe

set_option maxHeartbeats 800000 in
/-- The first three sources of the second exchange back. -/
theorem part12 (c : Dev nD) {Q : PUnit → sProp 𝕄} :
    iprop(recs m ρ K ∗ levAts L lv ∗ sent c 4 ∗ sent c 5 ∗ sent c 6 ∗ ow c 0)
      ⊢ iprop(((pts fullShare.left c 2 0 (comm m ρ c) ∗ semVal (sCell c 4) 0 ∗ pts fullShare.left c 2 128 (comm m ρ c) ∗ semVal (sCell c 5) 0 ∗ pts fullShare.left c 2 64 (comm m ρ c) ∗ semVal (sCell c 6) 0 ∗ ow c 0) -∗ Q ⟨⟩)
        -∗ run c (k0_part12 (F := F) xM (Memref.isWhole_whole _) oM (Memref.isWhole_whole _) scM (Memref.isWhole_whole _) cc0_scratch1 cc0_scratch2 ) Q) := by
  unfold run
  simp only [k0_part12_eq_skeleton]; unfold k0_part12_skel
  simp only [Prog.lift, Prog.bind_op, Prog.bind_ret, Prog.pure_eq_ret]
  iintro ⟨#HR, #Hlev, T4, T5, T6, HO⟩ Hk
  iapply (sent_step m ρ K c 4 2 0 rfl rfl rfl (N_eq 2 0 inb_S4x256x256_S1x64x256_2_0_0)) $$ [T4 HO]
  · isplitr; · iexact HR
    isplitr; · iexact Hlev
    iframe
  iintro ⟨S4, Y4, HO⟩
  iapply (sent_step m ρ K c 5 2 128 rfl rfl rfl (N_eq 2 128 inb_S4x256x256_S1x64x256_2_128_0)) $$ [T5 HO]
  · isplitr; · iexact HR
    isplitr; · iexact Hlev
    iframe
  iintro ⟨S5, Y5, HO⟩
  iapply (sent_step m ρ K c 6 2 64 rfl rfl rfl (N_eq 2 64 inb_S4x256x256_S1x64x256_2_64_0)) $$ [T6 HO]
  · isplitr; · iexact HR
    isplitr; · iexact Hlev
    iframe
  iintro ⟨S6, Y6, HO⟩
  unfold run; rw [wp_ret]; imodintro
  iapply Hk
  iframe

end Cert.BlockSum

end
-- ==== Proof.Body.lean ====
/-
The whole body, from what a device holds when it starts to what it holds in the end.
-/
module

public import proofs.«01_k».proof.Proof.Parts
public import proofs.«01_k».proof.Proof.Gen.KernelIdeal.Points

@[expose] public section

noncomputable section

namespace Cert.BlockSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s resources before its body: what it starts with and its communication buffer, at any contents. -/
def before (c : Dev nD) : sProp 𝕄 := iprop(start m ρ c ∗ ∃ f, ((c : Thread nD τ).loc cc0_scratch0) ↦{fullShare} f)
/-- And after it: the communication buffer, every semaphore of its own at zero and the barrier's at zero. -/
def past (c : Dev nD) : sProp 𝕄 :=
  iprop((∃ f, ((c : Thread nD τ).loc cc0_scratch0) ↦{fullShare} f) ∗ (bigSep Finset.univ fun p => semVal (sCell c p) 0)
    ∗ (bigSep Finset.univ fun p => semVal (rCell c p) 0) ∗ semVal (barCell c) 0)

/-- The run's data: both arrays as launched, the result block at `outAt`, the resources and the debts before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => before m ρ c
    | ⟨_ + 1, _⟩ => past c
  q _ := fullShare
  owed t := match t with
    | ⟨0, _⟩ => O₀ c
    | ⟨_ + 1, _⟩ => 0

section Body
variable (K : Dev nD × Kx → ℕ)

/-- The communication buffer back in one piece. -/
theorem rejoin (c : Dev nD) (f : Buf (Elt F) ((c : Thread nD τ).loc cc0_scratch0)) :
    iprop(quarter fullShare.left c 0 f ∗ quarter fullShare.right c 0 f ∗ quarter fullShare c 1 f
        ∗ quarter fullShare.left c 2 f ∗ quarter fullShare.right c 2 f ∗ quarter fullShare c 3 f)
      ⊢ (((c : Thread nD τ).loc cc0_scratch0) ↦{fullShare} f : sProp 𝕄) := by
  rw [scratch_eq, quarter_eq]
  iintro ⟨H1, H2, H3, H4, H5, H6⟩
  isplitl [H1 H2]
  · iapply (quarter_split c 0 f).2; iframe
  isplitl [H3]; · iexact H3
  isplitl [H4 H5]
  · iapply (quarter_split c 2 f).2; iframe
  iexact H6

set_option maxHeartbeats 1600000 in
/-- The body run part by part. -/
theorem body_run (c : Dev nD) (Q : PUnit → sProp 𝕄) (g : Buf (Elt F) ((c : Thread nD τ).loc cc0_stg1_0)) :
    iprop(recs m ρ K ∗ levAts L lv ∗ toBar c ∗ (bigSep Finset.univ fun p => toSend c p) ∗ (bigSep Finset.univ fun p => toRecv c p)
        ∗ cred (tallyAt (barCell c) () 2) ∗ (∃ W, owes (c : Thread nD τ) (O₀ c) W) ∗ xpt m ρ c
        ∗ (∃ f, ((c : Thread nD τ).loc cc0_scratch0) ↦{fullShare} f) ∗ (((c : Thread nD τ).loc cc0_stg1_0) ↦{fullShare} g))
      ⊢ iprop(((past c ∗ ow c 0 ∗ xpt m ρ c ∗ (((c : Thread nD τ).loc cc0_stg1_0) ↦{fullShare} outAt m ρ c)) -∗ Q ⟨⟩)
        -∗ run c (cc0_body (F := F) xM (Memref.isWhole_whole _) oM (Memref.isWhole_whole _) scM (Memref.isWhole_whole _) cc0_scratch1 cc0_scratch2) Q) := by
  simp only [cc0_body_eq_skeleton]; unfold cc0_body_skel run
  rw [outs_eq, outs_eq, bigSep_fin8, bigSep_fin8]
  unfold outs
  iintro ⟨#HR, #Hlev, HB, ⟨T0, T1, T2, T3, T4, T5, T6, T7⟩, ⟨V0, V1, V2, V3, V4, V5, V6, V7⟩, HC, HO, HX, HS, ⟨U0, U64, U128, U192⟩⟩ Hk
  rw [wp_bind]
  iapply (part1 m ρ K c) $$ [HB HC HO HX HS]
  · isplitr; · iexact HR
    isplitr; · iexact Hlev
    iframe
  iintro %r %hr Ho
  obtain ⟨d0, v2, v5, v6, v7, v23, v24⟩ := r
  dsimp only at hr
  have hd : c = d0 := hr.symm
  subst hd
  dsimp only
  unfold opened barX barY quarter
  icases Ho with ⟨HX, HO, ZB, ⟨L0, L2, L5, L7⟩, ⟨L1, L3, L4, L6⟩, ⟨S0, S2, S1, S3⟩, ⟨R0, R64, R128, R192⟩, ⟨%f, M0, M64, M128, M192⟩⟩
  rw [wp_bind]
  iapply (part2 m ρ K c _ _ _ _ _ _ ) $$ [T0 T1 S0 S1 L0 L1 HO]
  · isplitr; · iexact HR
    isplitr; · iexact Hlev
    iframe
  iintro ⟨T0, T1, HO⟩
  rw [wp_bind]
  iapply (part3 m ρ K c _ _ _ _ ) $$ [T2 T3 S2 S3 L2 L3 V0 R0 HO]
  · isplitr; · iexact HR
    isplitr; · iexact Hlev
    iframe
  iintro ⟨T2, T3, D0, Z0, R0, HO⟩
  rw [wp_bind]
  iapply (part4 m ρ K c _ _ _ ) $$ [D0 M0 T4 L4 HO]
  · isplitr; · iexact HR
    isplitr; · iexact Hlev
    iframe
  iintro ⟨D0, M0, T4, HO⟩
  rw [wp_bind]
  iapply (part5 m ρ K c _ _ _ ) $$ [V1 R128 M128 T5 L5 HO]
  · isplitr; · iexact HR
    isplitr; · iexact Hlev
    iframe
  iintro %w ⟨D1, Z1, R128, M128, T5, HO⟩
  obtain ⟨v131, v132⟩ := w
  dsimp only
  rw [wp_bind]
  iapply (part6 m ρ K c _ _ _ _ _ ) $$ [V2 R64 M64 T6 L6 HO]
  · isplitr; · iexact HR
    isplitr; · iexact Hlev
    iframe
  iintro ⟨D2, Z2, R64, M64, T6, HO⟩
  rw [wp_bind]
  iapply (part7 m ρ K c _ _ _ _ _ ) $$ [V3 R192 M192 HO]
  · isplitr; · iexact HR
    isplitr; · iexact Hlev
    iframe
  iintro ⟨D3, Z3, R192, S7, M192, HO⟩
  rw [wp_bind]
  iapply (part8 m ρ K c _ _ _ _ _ ) $$ [T7 S7 L7 V4 M0 U0 HO]
  · isplitr; · iexact HR
    isplitr; · iexact Hlev
    iframe
  iintro ⟨T7, D4, Z4, M0, U0, HO⟩
  rw [wp_bind]
  iapply (part9 m ρ K c _ _ _ ) $$ [V5 M128 U128 V6 M64 U64 HO]
  · isplitr; · iexact HR
    isplitr; · iexact Hlev
    iframe
  iintro ⟨D5, Z5, M128, U128, D6, Z6, M64, U64, HO⟩
  rw [wp_bind]
  iapply (part10 m ρ K c _ _ _ ) $$ [U64 V7 M192 U192 T0 HO]
  · isplitr; · iexact HR
    isplitr; · iexact Hlev
    iframe
  iintro ⟨U64, D7, Z7, M192, U192, S0, Y0, HO⟩
  rw [wp_bind]
  iapply (part11 m ρ K c ) $$ [T1 T2 T3 HO]
  · isplitr; · iexact HR
    isplitr; · iexact Hlev
    iframe
  iintro ⟨S1, Y1, S2, Y2, S3, Y3, HO⟩
  rw [wp_bind]
  iapply (part12 m ρ K c ) $$ [T4 T5 T6 HO]
  · isplitr; · iexact HR
    isplitr; · iexact Hlev
    iframe
  iintro ⟨S4, Y4, S5, Y5, S6, Y6, HO⟩
  simp only [Prog.lift, Prog.bind_op, Prog.bind_ret, Prog.pure_eq_ret]
  iapply (sent_step m ρ K c 7 2 192 rfl rfl rfl (N_eq 2 192 inb_S4x256x256_S1x64x256_2_192_0)) $$ [T7 HO]
  · isplitr; · iexact HR
    isplitr; · iexact Hlev
    iframe
  iintro ⟨S7, Y7, HO⟩
  unfold run; rw [wp_ret]; imodintro
  iapply Hk
  unfold past
  rw [bigSep_fin8, bigSep_fin8]
  isplitl [S0 S2 S1 S3 R0 R64 R128 R192 D0 D2 D1 D3 S4 S6 S5 S7 M0 M64 M128 M192 D4 D6 D5 D7 Y0 Y1 Y2 Y3 Y4 Y5 Y6 Y7 Z0 Z1 Z2 Z3 Z4 Z5 Z6 Z7 ZB]
  · isplitl [S0 S2 S1 S3 R0 R64 R128 R192 D0 D2 D1 D3 S4 S6 S5 S7 M0 M64 M128 M192 D4 D6 D5 D7]
    · iexists (comm m ρ c)
      iapply (rejoin c (comm m ρ c))
      unfold quarter
      isplitl [S0 S2 S1 S3]
      · isplitl [S0]; · iexact S0
        isplitl [S2]; · iexact S2
        isplitl [S1]; · iexact S1
        iexact S3
      isplitl [R0 R64 R128 R192]
      · isplitl [R0]; · iexact R0
        isplitl [R64]; · iexact R64
        isplitl [R128]; · iexact R128
        iexact R192
      isplitl [D0 D2 D1 D3]
      · isplitl [D0]; · iexact D0
        isplitl [D2]; · iexact D2
        isplitl [D1]; · iexact D1
        iexact D3
      isplitl [S4 S6 S5 S7]
      · isplitl [S4]; · iexact S4
        isplitl [S6]; · iexact S6
        isplitl [S5]; · iexact S5
        iexact S7
      isplitl [M0 M64 M128 M192]
      · isplitl [M0]; · iexact M0
        isplitl [M64]; · iexact M64
        isplitl [M128]; · iexact M128
        iexact M192
      isplitl [D4]; · iexact D4
      isplitl [D6]; · iexact D6
      isplitl [D5]; · iexact D5
      iexact D7
    isplitl [Y0 Y1 Y2 Y3 Y4 Y5 Y6 Y7]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      iexact Y7
    isplitl [Z0 Z1 Z2 Z3 Z4 Z5 Z6 Z7]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    iexact ZB
  isplitl [HO]; · iexact HO
  isplitl [HX]; · iexact HX
  isplitl [U0]; · iexact U0
  isplitl [U64]; · iexact U64
  isplitl [U128]; · iexact U128
  iexact U192

end Body

omit [FloatOps F] in
/-- Holding a whole buffer at known contents. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  simp only [owns, Memref.view_whole, View.read_whole, View.set_whole]

/-- At the one point of the run a device owes all its signals and transfers before the body, -/
theorem last_owed (c : Dev nD) : (dats m ρ 0 c).owed t0_0.castSucc = O₀ c := rfl
/-- and nothing after it. -/
theorem done_owed (c : Dev nD) : (dats m ρ 0 c).owed t0_0.succ = 0 := rfl

set_option maxRecDepth 4000 in
set_option maxHeartbeats 1600000 in
/-- Every point's body meets the pipeline's demand. -/
theorem body_ok (c : Dev nD) : BodyObligation (dats (F := F) m ρ 0 c) (defs₀ (F := F)) 𝒱₀ () Set.univ := fun t => by
  rw [fin_N0 t, bigSep_W0, bigSep_W0]
  simp only [owns_stage]
  show iprop(before m ρ c ∗ (dats m ρ 0 c).owesAt () t0_0.castSucc
      ∗ (∃ d, ∃ f : Buf (Elt F) ((c : Thread nD τ).loc cc0_stg0_0), ⌜f = (dats m ρ 0 c).before (0 : Fin 2) t0_0 d⌝ ∗ (((c : Thread nD τ).loc cc0_stg0_0) ↦{fullShare} f))
      ∗ (∃ d, ∃ f : Buf (Elt F) ((c : Thread nD τ).loc cc0_stg1_0), ⌜f = (dats m ρ 0 c).before (1 : Fin 2) t0_0 d⌝ ∗ (((c : Thread nD τ).loc cc0_stg1_0) ↦{fullShare} f)))
    ⊢ run c (cc0_body (F := F) xM (Memref.isWhole_whole _) oM (Memref.isWhole_whole _) scM (Memref.isWhole_whole _) cc0_scratch1 cc0_scratch2) (fun _ =>
      iprop(past c ∗ (dats m ρ 0 c).owesAt () t0_0.succ
        ∗ (∃ f : Buf (Elt F) ((c : Thread nD τ).loc cc0_stg0_0), ⌜f = xstg m ρ c⌝ ∗ (((c : Thread nD τ).loc cc0_stg0_0) ↦{fullShare} f))
        ∗ (∃ f : Buf (Elt F) ((c : Thread nD τ).loc cc0_stg1_0), ⌜f = outAt m ρ c⌝ ∗ (((c : Thread nD τ).loc cc0_stg1_0) ↦{fullShare} f))))
  unfold before start Dat.owesAt Pipeline.owesWithin
  rw [last_owed, done_owed]
  iintro ⟨⟨⟨⟨%K, #HR, HB, HS, HV⟩, HC, HVc, #Hlev⟩, Hscr⟩, ⟨%W, %hW, HO⟩, ⟨%d0, %g0, %hg0, HX⟩, ⟨%d1, %g1, %hg1, HU⟩⟩
  have hx : g0 = xstg m ρ c := by rw [hg0]; unfold Dat.before; rw [if_pos (fetch0_0 t0_0)]; rfl
  subst hx
  iapply (body_run m ρ K c _ g1) $$ [HB HS HV HC HVc HO HX HU Hscr]
  · isplitr; · iexact HR
    isplitr; · iexact Hlev
    isplitl [HB]; · iexact HB
    isplitl [HS]; · iexact HS
    isplitl [HV HVc]
    · unfold toRecv; rw [bigSep_sep']; iframe
    isplitl [HC]; · iexact HC
    isplitl [HO]; · iexists W; iexact HO
    isplitl [HX]; · unfold xpt; iexact HX
    iframe
  iintro ⟨HP, HO, HX, HU⟩
  unfold ow xpt
  icases HO with ⟨%W', HO⟩
  isplitl [HP]; · iexact HP
  isplitl [HO]
  · iexists W'
    isplitr; · ipureintro; exact fun _ _ => Or.inl trivial
    iexact HO
  isplitl [HX]
  · iexists _; isplitr; · (ipureintro; rfl)
    iexact HX
  iexists _; isplitr; · (ipureintro; rfl)
  iexact HU

end Cert.BlockSum

end
-- ==== Proof.Launch.lean ====
/-
The run of the whole program: what each device is dealt at launch, what it may claim from the others, and the run from
the bodies.
-/
module

public import proofs.«01_k».proof.Proof.Body
public import Idealize.ShloMosaic.Lib.Pipeline.CollectiveSegs

@[expose] public section

noncomputable section

namespace Cert.BlockSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and duty tokens -/

/-- The transfers' semaphores are the kernel's own: none is a semaphore of the staging. -/
theorem ownSemFacts : Pipeline.OwnSemFacts cfg0.spec osem := by decide

/-- Every window's array is held whole. -/
theorem share_full (c : Dev nD) (w : Fin cfg0.W) : (dats m ρ 0 c).share w = fullShare := by unfold Dat.share; split <;> rfl

/-- Different names stand for different semaphores of a device. -/
theorem csem_injective : Function.Injective csem := by decide

/-- Different devices or names stand for different semaphores. -/
theorem kcell_injective : Function.Injective kcell := fun a b h => by
  have h1 : a.1 = b.1 := congrArg (fun g : GSem nD τ sig => g.1.1) h
  have h2 : a.2 = b.2 := csem_injective (congrArg Prod.snd h)
  exact Prod.ext h1 h2

/-- Every semaphore the devices synchronise on. -/
def allCells : Finset (GSem nD τ sig) := Finset.univ.map ⟨kcell, kcell_injective⟩

/-- A device's duties: the two at its barrier, the one at each of its transfer semaphores. -/
abbrev Kt : Type := Bool ⊕ Kd
/-- The semaphore a duty is at, -/
def atSem : Kt → Kx := Sum.elim (fun _ => .inl ()) .inr
/-- and its mark there. -/
def mark : Kt → Bool := Sum.elim id fun _ => false
/-- The token of a duty: its semaphore, the round (there is only one), its mark. -/
def tokOf (ck : Dev nD × Kt) : GSem nD τ sig × ℕ × Bool := (kcell (ck.1, atSem ck.2), 0, mark ck.2)

/-- Different duties have different tokens. -/
theorem tokOf_injective : Function.Injective tokOf := fun a b h => by
  have h1 := kcell_injective (congrArg Prod.fst h)
  have h2 : mark a.2 = mark b.2 := congrArg (fun x : GSem nD τ sig × ℕ × Bool => x.2.2) h
  have h3 : atSem a.2 = atSem b.2 := congrArg Prod.snd h1
  have h4 : a.1 = b.1 := congrArg (fun x : Dev nD × Kx => x.1) h1
  have key : ∀ s t : Kt, mark s = mark t → atSem s = atSem t → s = t := by decide
  exact Prod.ext h4 (key _ _ h2 h3)

/-- The tokens of all duties. -/
def allToks : Finset (GSem nD τ sig × ℕ × Bool) := Finset.univ.map ⟨tokOf, tokOf_injective⟩

/-- The ghost state at launch: the pipeline's and the transfers'. -/
def u₀ : UU := (initOf (Pipeline.cells cfgs cellOf_inj) (Pipeline.launchToks cfgs cellOf_inj), initOf allCells allToks)

omit [FloatOps F] in
/-- A separating conjunction over the two booleans, written out. -/
theorem over_bool (Φ : Bool → sProp 𝕄) : bigSep Finset.univ Φ = iprop(Φ true ∗ Φ false) :=
  bigSep_univ_eq_bigSepL [true, false] (by decide) (by decide) Φ
omit [FloatOps F] in
/-- A separating conjunction over one index is its one member. -/
theorem over_unit (Φ : Unit → sProp 𝕄) : bigSep Finset.univ Φ = Φ () := bigSep_singleton

omit [FloatOps F] in
/-- A separating conjunction over a device's semaphores: the barrier's member, the source semaphores', the landing semaphores'. -/
theorem over_kx (Φ : Kx → sProp 𝕄) : bigSep Finset.univ Φ
    = iprop(Φ (.inl ()) ∗ (bigSep Finset.univ fun p => Φ (.inr (.inl p))) ∗ bigSep Finset.univ fun p => Φ (.inr (.inr p))) := by
  rw [BI.bigSep_univ_sum, BI.bigSep_univ_sum, over_unit]; rfl

/-- The tokens of the duties at device `c`'s own semaphores. -/
def toks (c : Dev nD) : sProp 𝕄 :=
  iprop((dutyTok ER (barCell c) 0 true ∗ dutyTok ER (barCell c) 0 false)
    ∗ (bigSep Finset.univ fun p => dutyTok ER (sCell c p) 0 false) ∗ bigSep Finset.univ fun p => dutyTok ER (rCell c p) 0 false)

/-- The tokens of the duties device `c` performs. -/
def dues (c : Dev nD) : sProp 𝕄 :=
  iprop((dutyTok ER (barCell (nb true c)) 0 true ∗ dutyTok ER (barCell (nb false c)) 0 false)
    ∗ (bigSep Finset.univ fun p => dutyTok ER (sCell c p) 0 false) ∗ bigSep Finset.univ fun p => dutyTok ER (rCell (peer c p) p) 0 false)

/-- Each landing semaphore's duty against the device at the other end of its transfer. -/
def crossing : Dev nD × Fin 8 ≃ Dev nD × Fin 8 :=
  have h : ∀ a : Dev nD × Fin 8, (peer (peer a.1 a.2) a.2, a.2) = a := fun a => Prod.ext (peer_peer a.1 a.2) rfl
  ⟨fun a => (peer a.1 a.2, a.2), fun a => (peer a.1 a.2, a.2), h, h⟩

omit [FloatOps F] in
/-- Each token goes to the device that performs its duty. -/
theorem toks_dealt : (bigSep Finset.univ fun c : Dev nD => (toks c : sProp 𝕄)) ⊢ bigSep Finset.univ fun c : Dev nD => dues c := by
  have hr : (bigSep Finset.univ fun c : Dev nD => bigSep Finset.univ fun p : Fin 8 => (dutyTok ER (rCell c p) 0 false : sProp 𝕄))
      = bigSep Finset.univ fun c : Dev nD => bigSep Finset.univ fun p : Fin 8 => dutyTok ER (rCell (peer c p) p) 0 false := by
    rw [← bigSep_univ_prod (fun cp : Dev nD × Fin 8 => (dutyTok ER (rCell cp.1 cp.2) 0 false : sProp 𝕄)),
      bigSep_univ_equiv crossing, bigSep_univ_prod]
    rfl
  unfold toks dues
  simp only [bigSep_sep']
  rw [hr, bigSep_univ_equiv (nbEquiv true) fun c => (dutyTok ER (barCell c) 0 true : sProp 𝕄),
    bigSep_univ_equiv (nbEquiv false) fun c => (dutyTok ER (barCell c) 0 false : sProp 𝕄)]
  exact Entails.refl _

/-- A device's share of the launch. -/
def dealt (c : Dev nD) : sProp 𝕄 :=
  iprop((bigSep Finset.univ fun k : Kx => roundState ER (sched m ρ) (kcell (c, k)) 0)
    ∗ (bigSep Finset.univ fun k : Kx => iprop(atPos ER (kcell (c, k)) 0 ∅ 0 ∗ reached ER (kcell (c, k)) 0)) ∗ toks c)

/-- The tokens and round counts of all semaphores, sorted by the device that is dealt them. -/
theorem fund_dealt : BI.own (ER (initOf allCells allToks)) ⊢ (|==> bigSep Finset.univ (dealt m ρ) : sProp 𝕄) := by
  have hX (Φ : GSem nD τ sig → sProp 𝕄) :
      bigSep allCells Φ = bigSep Finset.univ fun c : Dev nD => bigSep Finset.univ fun k : Kx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [BI.bigSep_univ_sum, BI.bigSep_univ_sum, over_bool]
    rfl
  unfold dealt
  simp only [bigSep_sep']
  iintro HX
  imod (Rounds.fund ER (sched m ρ) allCells allToks) $$ HX with H
  rw [hX, hX, hX, hT]
  icases H with ⟨H1, H2, H3, H4⟩
  imodintro
  isplitl [H1]; · iexact H1
  isplitl [H2 H3]
  · isplitl [H3]; · iexact H3
    iexact H2
  iexact H4

/-! ## Invariants -/

omit [FloatOps F] in
/-- The kernel's own semaphores of a device are those of its sixteen transfers' ends, all at zero. -/
theorem own_sems (c : Dev nD) : (Pipeline.ownSems0 (Ix := Unit) (Name := ℕ) (U := UU) (Lvl := ℕ) (Val := Elt F) (τ := τ) osem c : sProp 𝕄)
    = iprop((bigSep Finset.univ fun p => semVal (sCell c p) 0) ∗ bigSep Finset.univ fun p => semVal (rCell c p) 0) := by
  unfold Pipeline.ownSems0; rw [BI.bigSep_univ_sum]; rfl
omit [FloatOps F] in
/-- The one semaphore of a device that lasts beyond the kernel is its barrier, at zero. -/
theorem launch_sems (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are all the semaphores a device synchronises on, at zero. -/
theorem all_sems (c : Dev nD) :
    iprop(Pipeline.ownSems0 (Ix := Unit) (Name := ℕ) (U := UU) (Lvl := ℕ) (Val := Elt F) (τ := τ) osem c ∗ unscopedSems0 c)
      ⊢ (bigSep Finset.univ fun k : Kx => semVal (kcell (c, k)) 0 : sProp 𝕄) := by
  rw [launch_sems, BI.bigSep_univ_sum, over_unit]
  exact sep_comm

/-- One device's semaphores, each under its invariant. -/
def shared (c : Dev nD) : sProp 𝕄 := bigSep Finset.univ fun k : Kx => iprop(∃ κ : ℕ, cellInv ER (sched m ρ) κ (kcell (c, k)))

/-- A device's semaphores at zero and what it was dealt become invariants of those semaphores. -/
theorem alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop(shared m ρ c
          ∗ (bigSep Finset.univ fun k : Kx => iprop(atPos ER (kcell (c, k)) 0 ∅ 0 ∗ reached ER (kcell (c, k)) 0)) ∗ toks c) := by
  have hinv : iprop((bigSep Finset.univ fun k : Kx => semVal (kcell (c, k)) 0) ∗ bigSep Finset.univ fun k : Kx => roundState ER (sched m ρ) (kcell (c, k)) 0)
      ⊢ (|={Set.univ}=> shared m ρ c : sProp 𝕄) := by
    rw [← bigSep_sep']
    exact (bigSep_mono fun k _ => (Rounds.body_intro ER (sched m ρ) (kcell (c, k))).trans inv_alloc).trans (bigSep_fupd _ _)
  unfold dealt
  iintro ⟨Hos, Hus, Hst, Hrest⟩
  ihave Hv := (all_sems (F := F) c) $$ [Hos Hus]
  · iframe
  imod hinv $$ [Hv Hst] with Hinv
  · isplitl [Hv] <;> iassumption
  imodintro
  isplitl [Hinv] <;> iassumption

/-- What a device works from, next to the facts all share. -/
def own (c : Dev nD) : sProp 𝕄 := iprop((bigSep Finset.univ fun k : Kx => atPos ER (kcell (c, k)) 0 ∅ 0) ∗ dues c)

/-- What a device's body starts from, but for its credits and levels. -/
def opening (c : Dev nD) : sProp 𝕄 :=
  iprop(∃ K, recs m ρ K ∗ toBar c ∗ (bigSep Finset.univ fun p => toSend c p) ∗ bigSep Finset.univ fun p => atPos ER (rCell c p) 0 ∅ 0)

/-- The records of all semaphores and a device's own tokens are what the device opens with. -/
theorem opening_intro (K : Dev nD × Kx → ℕ) (c : Dev nD) : iprop(recs m ρ K ∗ own c) ⊢ opening m ρ c := by
  unfold own dues opening toBar toSend
  rw [over_kx]
  simp only [bigSep_sep']
  iintro ⟨#HR, ⟨HaB, HaS, HaV⟩, ⟨HtX, HtY⟩, HtS, HtV⟩
  iexists K
  isplitr; · iexact HR
  isplitl [HaB HtX HtY]
  · isplitl [HaB]; · iexact HaB
    isplitl [HtX] <;> iassumption
  isplitl [HaS HtS HtV]
  · isplitl [HaS]; · iexact HaS
    isplitl [HtS] <;> iassumption
  iexact HaV

omit [FloatOps F] in
/-- A fact that may be used any number of times is used at every index. -/
theorem each_of {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- Every device's opening, from every device's invariants and tokens. -/
theorem openings :
    (bigSep Finset.univ fun c : Dev nD => iprop(shared m ρ c
          ∗ (bigSep Finset.univ fun k : Kx => iprop(atPos ER (kcell (c, k)) 0 ∅ 0 ∗ reached ER (kcell (c, k)) 0)) ∗ toks c) : sProp 𝕄)
      ⊢ bigSep Finset.univ (opening m ρ) := by
  unfold shared
  simp only [bigSep_sep']
  rw [← bigSep_univ_prod (fun ck : Dev nD × Kx => iprop(∃ κ : ℕ, cellInv ER (sched m ρ) κ (kcell ck))),
    ← bigSep_univ_prod (fun ck : Dev nD × Kx => (reached ER (kcell ck) 0 : sProp 𝕄))]
  iintro ⟨HI, ⟨Hat, #HR⟩, Htok⟩
  ihave HK := (BI.bigSep_exists_pi Finset.univ (fun (ck : Dev nD × Kx) (κ : ℕ) => (cellInv ER (sched m ρ) κ (kcell ck) : sProp 𝕄))) $$ HI
  icases HK with ⟨%K, #HI⟩
  ihave Htk := (toks_dealt (F := F)) $$ Htok
  iapply (each_of (R := recs m ρ K) fun c _ => opening_intro m ρ K c)
  isplitr
  · unfold recs; isplitl; · iexact HI
    iexact HR
  · unfold own
    rw [bigSep_sep']
    isplitl [Hat] <;> iassumption

/-- Every device's opening, from the semaphores at zero and what is dealt at launch. -/
theorem opened_all : (bigSep Finset.univ fun c => iprop(Pipeline.ownSems0 (Ix := Unit) (Name := ℕ) (U := UU) (Lvl := ℕ) (Val := Elt F) (τ := τ) osem c
      ∗ unscopedSems0 c ∗ dealt m ρ c) : sProp 𝕄) ⊢ |={Set.univ}=> bigSep Finset.univ (opening m ρ) :=
  ((bigSep_mono fun c _ => alloc m ρ c).trans (bigSep_fupd _ _)).trans (BI.fupd_mono (openings m ρ))

/-! ## Credit -/

/-- A barrier is no landing semaphore. -/
theorem bar_ne_r (a b : Dev nD) (p : Fin 8) : barCell a ≠ rCell b p := fun h => by cases congrArg Prod.snd h
/-- Barriers of different devices are different. -/
theorem bar_inj {a b : Dev nD} (h : barCell a = barCell b) : a = b := congrArg (fun g : GSem nD τ sig => g.1.1) h
/-- Landing semaphores of different devices or transfers are different. -/
theorem r_inj {a b : Dev nD} {p q : Fin 8} (h : rCell a p = rCell b q) : a = b ∧ p = q := by
  have := kcell_injective (a₁ := (a, .inr (.inr p))) (a₂ := (b, .inr (.inr q))) h
  exact ⟨congrArg (fun x : Dev nD × Kx => x.1) this, by simpa using congrArg (fun x : Dev nD × Kx => x.2) this⟩

/-- If one device is the other's neighbour, the other is its. -/
theorem eq_nb {b : Bool} {c d : Dev nD} : c = nb b d ↔ d = nb b c :=
  ⟨fun h => by rw [h, nb_nb], fun h => by rw [h, nb_nb]⟩

/-- What the transfers owe a semaphore, one by one. -/
theorem OS_sum (d : Dev nD) (g : GSem nD τ sig) : ∀ n, OS d n g () = ∑ k ∈ Finset.range n, if g = rCell (peer d (nth k)) (nth k) then N else 0
  | 0 => rfl
  | n + 1 => by
    rw [Finset.sum_range_succ, ← OS_sum d g n]
    show (OS d n + tallyAt (rCell (peer d (nth n)) (nth n)) () N : CellTallies nD τ sig Unit) g () = _
    rw [Pi.add_apply, Finsupp.add_apply, tallyAt_apply]
    simp only [and_true]

/-- Transfers owe nothing to a barrier. -/
theorem OS_bar (d c : Dev nD) : OS d 8 (barCell c) () = 0 := by
  rw [OS_sum]
  exact Finset.sum_eq_zero fun k _ => if_neg (bar_ne_r _ _ _)

/-- A landing semaphore is owed one transfer, by the partner. -/
theorem OS_r (d c : Dev nD) (p : Fin 8) : OS d 8 (rCell c p) () = if d = peer c p then N else 0 := by
  rw [OS_sum, Finset.sum_eq_single (7 - p.val)]
  · rw [show nth (7 - p.val) = p from Fin.ext (show (7 - (7 - p.val)) % 8 = p.val by omega)]
    exact if_congr ⟨fun h => eq_nb.mp (r_inj h).1, fun h => by rw [h, peer_peer]⟩ rfl rfl
  · intro k hk hne
    refine if_neg fun h => hne ?_
    have : p.val = (7 - k) % 8 := congrArg Fin.val (r_inj h).2
    have := Finset.mem_range.mp hk
    omega
  · intro h
    exact absurd (Finset.mem_range.mpr (by omega)) h

/-- What a device owes at a barrier: one signal at each neighbour's. -/
theorem owed_bar (d c : Dev nD) : O₀ d (barCell c) () = (if d = nb false c then 1 else 0) + (if d = nb true c then 1 else 0) := by
  unfold O₀ O₁
  rw [Pi.add_apply, Finsupp.add_apply, Pi.add_apply, Finsupp.add_apply, tallyAt_apply, tallyAt_apply, OS_bar, Nat.zero_add]
  exact congrArg₂ _ (if_congr ⟨fun h => eq_nb.mp (bar_inj h.1), fun h => ⟨by rw [h, nb_nb], rfl⟩⟩ rfl rfl)
    (if_congr ⟨fun h => eq_nb.mp (bar_inj h.1), fun h => ⟨by rw [h, nb_nb], rfl⟩⟩ rfl rfl)

/-- What a device owes at a landing semaphore: one transfer at its partner's. -/
theorem owed_r (d c : Dev nD) (p : Fin 8) : O₀ d (rCell c p) () = if d = peer c p then N else 0 := by
  unfold O₀ O₁
  rw [Pi.add_apply, Finsupp.add_apply, Pi.add_apply, Finsupp.add_apply, tallyAt_apply, tallyAt_apply, OS_r,
    if_neg (show ¬ (rCell c p = barCell (nb false d) ∧ () = ()) from fun h => bar_ne_r _ _ _ h.1.symm),
    if_neg (show ¬ (rCell c p = barCell (nb true d) ∧ () = ()) from fun h => bar_ne_r _ _ _ h.1.symm), Nat.add_zero]

/-- The signals owed at launch to a device's barrier add up to two. -/
theorem launch_bar (c : Dev nD) :
    tallyOn (barCell c) (launchCredit (Pipeline.owing O₀) 0 (barCell c)) = (tallyAt (barCell c) () 2 : CellTallies nD τ sig Unit) := by
  refine congrArg _ (Finsupp.ext fun _ => ?_)
  rw [Pipeline.launchCredit_owing, Finsupp.single_eq_same, Finset.sum_congr rfl fun d _ => owed_bar d c, Finset.sum_add_distrib,
    Finset.sum_ite_eq' Finset.univ (nb false c) fun _ => 1, Finset.sum_ite_eq' Finset.univ (nb true c) fun _ => 1, if_pos (Finset.mem_univ _), if_pos (Finset.mem_univ _)]

/-- The transfers owed at launch to a device's landing semaphore add up to one. -/
theorem launch_r (c : Dev nD) (p : Fin 8) :
    tallyOn (rCell c p) (launchCredit (Pipeline.owing O₀) 0 (rCell c p)) = (tallyAt (rCell c p) () N : CellTallies nD τ sig Unit) := by
  refine congrArg _ (Finsupp.ext fun _ => ?_)
  rw [Pipeline.launchCredit_owing, Finsupp.single_eq_same, Finset.sum_congr rfl fun d _ => owed_r d c p,
    Finset.sum_ite_eq' Finset.univ (peer c p) fun _ => N, if_pos (Finset.mem_univ _)]

omit [FloatOps F] in
/-- A device's credit: two units at its barrier and a transfer at each landing semaphore. -/
theorem credits (c : Dev nD) : (Pipeline.launchCred O₀ c : sProp 𝕄)
    ⊢ iprop(cred (tallyAt (barCell c) () 2) ∗ bigSep Finset.univ fun p => cred (tallyAt (rCell c p) () N)) := by
  have hinj : Function.Injective fun p : Fin 8 => (SemLoc.dma (rSem p) : SemLoc sig) := by decide
  unfold Pipeline.launchCred
  rw [bigSep_univ_at _ (SemLoc.reg barS), launch_bar]
  refine sep_mono_right ?_
  refine (bigSep_subset (t := Finset.univ.map ⟨_, hinj⟩) fun s hs => ?_).trans ?_
  · obtain ⟨p, -, rfl⟩ := Finset.mem_map.mp hs
    exact Finset.mem_erase.mpr ⟨(fun h => by cases h), Finset.mem_univ _⟩
  · rw [bigSep_map]
    exact bigSep_mono fun p _ => Entails.of_eq (congrArg cred (launch_r c p))

/-! ## The run -/

/-- What a device starts its body with, from its opening and its claims. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ opening m ρ c)
      ⊢ |={Set.univ}=> iprop(start m ρ c ∗ emp) := by
  iintro ⟨-, Hlev, Hcr, -, HG⟩
  ihave Hc := (credits (F := F) c) $$ Hcr
  icases Hc with ⟨H1, HN⟩
  imodintro
  unfold start opening
  isplitl
  · isplitl [HG]; · iexact HG
    isplitl [H1]; · iexact H1
    isplitl [HN] <;> iassumption
  · iempintro

/-- The state at launch gives what holds before the body. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

/-- What holds after the body gives back all semaphores at zero and the scratch buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = past c from rfl, scopedRest0_eq, own_sems, launch_sems]
  unfold past
  iintro ⟨Hr, HS, HV, HB⟩
  isplitl [HB]; · iexact HB
  isplitl [HS HV]
  · isplitl [HS] <;> iassumption
  iexact Hr

/-- The waits of the staging are allowed, before the body and after it. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What each array of the kernel's holds in the end. -/
def last (c : Dev nD) (w : Fin cfg0.W) : Buf (Elt F) ((cfg0.win w).arr.view.loc (c : Thread nD τ)) := (dats m ρ 0 c).arrAt w cfg0.N

/-- In the end every window's array holds the contents computed for it. -/
def Ends : PUnit × MemSt nD τ sig (Elt F) → Prop := fun r =>
  ∀ c : Dev nD, ∀ w : Fin cfg0.W, r.2.mem ((cfg0.win w).arr.view.loc (c : Thread nD τ)) = last m ρ c w

set_option maxRecDepth 8000 in
/-- From any memory with every semaphore at zero, every fair run of the four devices terminates; in the end each device's
    arrays hold `last` and every semaphore is at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_ok m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := dealt m ρ) (G' := opening m ρ) (u₀ := u₀)
    (hu₀ := by
      unfold u₀
      iintro Hu
      ihave H := (ownU_pair _ _) $$ Hu
      icases H with ⟨HP, HX⟩
      imod (fund_dealt m ρ) $$ HX with HG
      imodintro
      isplitl [HP] <;> iassumption)
    (hglob := opened_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array is as it was. -/
theorem last_x (c : Dev nD) : last m ρ c (0 : Fin 2) = m ((c : Thread nD τ).loc main_arg0) :=
  (dats (F := F) m ρ 0 c).arrAt_in (0 : Fin 2) rfl _

end Cert.BlockSum

end
-- ==== Proof.Result.lean ====
/-
What the result array holds after the run, and that it is the sum of the four blocks of the whole array: the kernel's
two additions on each device and the reference's sum over two axes are the same sum of four numbers.
-/
module

public import proofs.«01_k».proof.Proof.Launch
public import proofs.«01_k».proof.Proof.Gen.ReferenceIdeal.Run
public import Idealize.ShloMosaic.Lib.Layout
public import Idealize.ShloMosaic.PureOps.Ideal.Laws
public import Idealize.ShloMosaic.Lib.Pointwise.Reduce
public import Idealize.ShloMosaic.Lib.Pointwise.Reshape

@[expose] public section

noncomputable section

namespace Cert.BlockSum

open Cert.KernelIdeal Cert.KernelIdeal.Gen

open Idealize.ShloMosaic
open Idealize.ShloMosaic.TcCoe
open Idealize.SL.Sem

/-! ## The arrays after the run -/

section arrays
variable {F : FTy → Type} [FloatOps F]
variable (m : (ℓ : Loc nD τ sig) → Buf (Elt F) ℓ) (ρ : Dev nD → PrngReg)

/-- The staged block of a device is its argument array: the window has one block, the whole array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- After the run a device's result array is the sum left in its staging buffer. -/
theorem last_o (c : Dev nD) : last m ρ c (1 : Fin 2) = outAt m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_1.blk (0 : Fin 1)).view.read (Elt F) (last m ρ c (1 : Fin 2)) = outAt m ρ c := by
    unfold last
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (hr _).symm.trans ho

end arrays

/-! ## The whole array's four blocks -/

/-- Where entry `i` of device `c`'s block lies in the whole array. -/
def spot (c : Dev nD) (i : S256x256.Idx) : Cert.ReferenceIdeal.S512x512.Idx := fun a =>
  match a with
  | ⟨0, _⟩ => ⟨256 * (c.val / 2) + (i 0).val, by
      have h1 := c.isLt; have h2 : (i 0).val < 256 := (i 0).isLt; simp only [nD] at h1; show _ < 512; omega⟩
  | ⟨1, _⟩ => ⟨256 * (c.val % 2) + (i 1).val, by
      have h2 : (i 1).val < 256 := (i 1).isLt; show _ < 512; omega⟩

/-- A device's block of the whole array, at an entry. -/
theorem block_spot {α : Type} (c : Dev nD) (X : Cert.ReferenceIdeal.S512x512.Idx → α) (i : S256x256.Idx) :
    Layout.blockN ⟨2, ![256, 256]⟩ ⟨2, ![512, 512]⟩ (Layout.meshBlock [2, 2] ![[0], [1]] c) X (by decide) i = X (spot c i) := by
  rw [Layout.blockN_apply]
  refine congrArg X (funext fun a => Fin.ext ?_)
  rw [Layout.TilesN.idx_val]
  fin_cases a
  · have h : (Layout.meshBlock [2, 2] ![[0], [1]] c (by decide) (0 : Fin 2)).val = c.val / 2 := by revert c; decide
    show (Layout.meshBlock [2, 2] ![[0], [1]] c (by decide) (0 : Fin 2)).val * 256 + (i 0).val = 256 * (c.val / 2) + (i 0).val
    rw [h, Nat.mul_comm]
  · have h : (Layout.meshBlock [2, 2] ![[0], [1]] c (by decide) (1 : Fin 2)).val = c.val % 2 := by revert c; decide
    show (Layout.meshBlock [2, 2] ![[0], [1]] c (by decide) (1 : Fin 2)).val * 256 + (i 1).val = 256 * (c.val % 2) + (i 1).val
    rw [h, Nat.mul_comm]

/-- A device, its neighbours along the two axes, and the neighbour's neighbour are the four devices: a sum over them, in
    the order the kernel adds, is the sum over all. -/
theorem sum_round {M : Type*} [AddCommMonoid M] (f : Dev nD → M) (w : Bool) (c : Dev nD) :
    (f c + f (nb w c)) + (f (nb (!w) c) + f (nb w (nb (!w) c))) = (f 0 + f 1) + (f 2 + f 3) := by
  have h : ∀ (w : Bool) (c : Dev nD), List.Perm [c, nb w c, nb (!w) c, nb w (nb (!w) c)] [0, 1, 2, 3] := by decide
  have e := (List.Perm.map f (h w c)).sum_eq
  simp only [List.map_cons, List.map_nil, List.sum_cons, List.sum_nil, add_zero] at e
  rw [add_assoc, e, add_assoc]

/-- The whole array's sum over its four blocks, at an entry. -/
def total (X : Cert.ReferenceIdeal.S512x512.Idx → Ideal .bf16) (i : S256x256.Idx) : Ideal .bf16 :=
  (X (spot 0 i) + X (spot 1 i)) + (X (spot 2 i) + X (spot 3 i))

/-- With exact arithmetic the kernel's result on every device is the sum of the four blocks. -/
theorem outAt_total (m : (ℓ : Loc nD τ sig) → Buf (Elt Ideal) ℓ) (ρ : Dev nD → PrngReg)
    (X : Cert.ReferenceIdeal.S512x512.Idx → Ideal .bf16)
    (hX : ∀ (c : Dev nD), m ((c : Thread nD τ).loc main_arg0)
      = Layout.blockN ⟨2, ![256, 256]⟩ ⟨2, ![512, 512]⟩ (Layout.meshBlock [2, 2] ![[0], [1]] c) X)
    (c : Dev nD) : outAt m ρ c = total X := by
  funext i
  have hx : ∀ (d : Dev nD), xstg m ρ d i = X (spot d i) := fun d =>
    (congrFun ((xstg_eq m ρ d).trans (hX d)) i).trans (block_spot d X i)
  have e : outAt m ρ c i = FloatOps.addf (φ := .bf16)
      (FloatOps.addf (φ := .bf16) (xstg m ρ c i) (xstg m ρ (nb (way (i 0).val) c) i))
      (FloatOps.addf (φ := .bf16) (xstg m ρ (nb (!way (i 0).val) c) i)
        (xstg m ρ (nb (way (i 0).val) (nb (!way (i 0).val) c)) i)) := rfl
  rw [e, hx, hx, hx, hx]
  exact sum_round (fun d => X (spot d i)) (way (i 0).val) c

/-! ## The reference's sum -/

section reference
open Cert.ReferenceIdeal Cert.ReferenceIdeal.Gen

/-- The entries summed into entry `j`: its coordinates on the kept axes, any on the two summed. -/
def entry (j : Cert.ReferenceIdeal.S256x256.Idx) (k : Fin 2 × Fin 2) : S2x256x2x256.Idx := fun a =>
  match a with
  | ⟨0, _⟩ => k.1
  | ⟨1, _⟩ => j 0
  | ⟨2, _⟩ => k.2
  | ⟨3, _⟩ => j 1

/-- Different places on the summed axes are different entries. -/
theorem entry_injective (j : Cert.ReferenceIdeal.S256x256.Idx) : Function.Injective (entry j) := fun _ _ e =>
  Prod.ext (congrFun e 0) (congrFun e 2)

/-- The entries that the reduction sends to `j` are those `entry j` lists. -/
theorem drop_iff (j : Cert.ReferenceIdeal.S256x256.Idx) (i : S2x256x2x256.Idx) :
    reducesTo_S2x256x2x256_S256x256_d0_2.drop i = j ↔ ∃ k, entry j k = i := by
  refine ⟨fun e => ⟨(i 0, i 2), funext fun a => ?_⟩, ?_⟩
  · subst e
    fin_cases a <;> rfl
  · rintro ⟨k, rfl⟩
    funext b
    fin_cases b <;> rfl

/-- Entry `(p, a, q, b)` of the reshaped array is entry `(256 p + a, 256 q + b)` of the whole, in the block of device `2 p + q`. -/
theorem entry_spot (j : Cert.ReferenceIdeal.S256x256.Idx) (p q : Fin 2) (c : Dev Cert.KernelIdeal.nD) (hc : c.val = 2 * p.val + q.val) :
    Shape.reshapeEquiv shapeCasts_S512x512_S2x256x2x256 (entry j (p, q)) = spot c j := by
  have hp := p.isLt
  have hq := q.isLt
  refine Shape.reshapeEquiv_eq_of_vals _ _ _ _ _ (rowMajor_val2 _ 512 rfl) (rowMajor_val4 _ 131072 512 256 rfl rfl rfl) ?_
  show (256 * (c.val / 2) + (j 0).val) * 512 + (256 * (c.val % 2) + (j 1).val)
    = p.val * 131072 + (j 0).val * 512 + q.val * 256 + (j 1).val
  omega

/-- With exact arithmetic the reference's result is the sum of the four blocks. -/
theorem reference_total (X : (⟨S512x512, .bf16⟩ : BufTy).Contents (Elt Ideal)) :
    truncf (F := Ideal) .bf16 (Host.reduceAdd (extf .f32 (shapeCast _ X shapeCasts_S512x512_S2x256x2x256) bitsLt_bf16_f32)
      (constant Cert.ReferenceIdeal.S_ .f32 0x00000000#32) reducesTo_S2x256x2x256_S256x256_d0_2 h_S_) bitsLt_bf16_f32 = total X := by
  funext j
  show Ideal.ofBits .f32 0x00000000#32
    + ∑ i ∈ Finset.univ.filter (fun i => reducesTo_S2x256x2x256_S256x256_d0_2.drop i = j),
        X (Shape.reshapeEquiv shapeCasts_S512x512_S2x256x2x256 i) = total X j
  rw [Ideal.ofBits_zero_f32, zero_add,
    Finset.sum_filter_eq_sum_of_fiber _ (entry j) (entry_injective j) (drop_iff j)]
  simp only [Fintype.sum_prod_type, Fin.sum_univ_two]
  rw [entry_spot j 0 0 0 rfl, entry_spot j 0 1 1 rfl, entry_spot j 1 0 2 rfl, entry_spot j 1 1 3 rfl]
  rfl

end reference

end Cert.BlockSum

end
-- ==== Proof.lean ====
/-
The proof of this certificate's claims: the three runs end with every semaphore counter at zero and the arguments
unchanged, and with exact arithmetic the kernel's result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Result

@[expose] public section

noncomputable section

namespace Cert.Proof

open Idealize.ShloMosaic Idealize.SL.Sem Cert.BlockSum

/-- With exact arithmetic the kernel runs, its argument unchanged and every counter at zero in the end. -/
theorem frame_ideal : Cert.quiescent_KernelIdeal := fun m ρ _ =>
  (θ_run Cert.KernelIdeal.defs _ _).mono (fun _ h => ⟨fun c => (h.1 c (0 : Fin 2)).trans (last_x m ρ c), h.2⟩)
    (run_main (F := Ideal) m ρ)

/-- The bodies of the two readings of the kernel are the same, for any arithmetic. -/
theorem same_bodies {F : FTy → Type} [FloatOps F] : Cert.Kernel.defs₀ (F := F) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are their tables of procedures. -/
theorem same_defs {F : FTy → Type} [FloatOps F] : Cert.Kernel.defs (F := F) = Cert.KernelIdeal.defs :=
  congrArg (Pipeline.defs Cert.Kernel.pcfgs) same_bodies

/-- With the machine's arithmetic the kernel runs, its argument unchanged and every counter at zero in the end: the run
    is proved for any arithmetic, and the two programs are the same text. -/
theorem frame_bits : Cert.quiescent_Kernel := by
  intro m ρ _
  rw [same_defs]
  exact (θ_run Cert.KernelIdeal.defs _ _).mono (fun _ h => ⟨fun c => (h.1 c (0 : Fin 2)).trans (last_x m ρ c), h.2⟩)
    (run_main (F := Bits) m ρ)

/-- The reference runs, its argument unchanged and every counter at zero in the end: it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From blocks of the reference's argument, the kernel's result on every device is the reference's: both are the sum of
    the four blocks. -/
theorem same_result : Cert.algebraic_KernelIdeal_ReferenceIdeal := by
  intro m ρ m' ρ' _ hX
  refine ⟨total (m' (((0 : Dev Cert.ReferenceIdeal.nD).tc : Thread _ Cert.ReferenceIdeal.τ).loc
    Cert.ReferenceIdeal.main_arg0)), ?_, ?_⟩
  · exact (θ_run Cert.KernelIdeal.defs _ _).mono
      (fun _ h c => ⟨(h.1 c (1 : Fin 2)).trans ((last_o m ρ c).trans (outAt_total m ρ _ hX c)),
        (h.1 c (0 : Fin 2)).trans (last_x m ρ c)⟩)
      (run_main (F := Ideal) m ρ)
  · exact (θ_run Cert.ReferenceIdeal.defs _ _).mono (fun _ h => ⟨(h 0).1.trans (reference_total _), (h 0).2⟩)
      (Cert.ReferenceIdeal.Value.run (F := Ideal) m' ρ')

/-- All the claims. -/
theorem claim : Cert.Claim :=
  ⟨Cert.Kernel.Gen.facts, Cert.KernelIdeal.Gen.facts, Cert.ReferenceIdeal.Gen.facts,
    frame_bits, frame_ideal, frame_reference, trivial, same_result⟩

end Cert.Proof

end
